-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![1024, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S64x512 : Shape := ⟨2, ![64, 512]⟩
abbrev S768x512 : Shape := ⟨2, ![768, 512]⟩
abbrev S15 : Shape := ⟨1, ![15]⟩
abbrev S16 : Shape := ⟨1, ![16]⟩
abbrev S_ : Shape := ⟨0, ![]⟩
abbrev S1024x64 : Shape := ⟨2, ![1024, 64]⟩
abbrev S1024x1024 : Shape := ⟨2, ![1024, 1024]⟩
abbrev S1024 : Shape := ⟨1, ![1024]⟩
abbrev S1024x48 : Shape := ⟨2, ![1024, 48]⟩
abbrev S48x256 : Shape := ⟨2, ![48, 256]⟩
abbrev S48x1 : Shape := ⟨2, ![48, 1]⟩
abbrev S48x512 : Shape := ⟨2, ![48, 512]⟩
abbrev S1x256x512 : Shape := ⟨3, ![1, 256, 512]⟩
abbrev S256x512 : Shape := ⟨2, ![256, 512]⟩
abbrev S1 : Shape := ⟨1, ![1]⟩
abbrev S64x1 : Shape := ⟨2, ![64, 1]⟩
abbrev S64x1024 : Shape := ⟨2, ![64, 1024]⟩
abbrev S64x768 : Shape := ⟨2, ![64, 768]⟩

abbrev nBuf : Space → Nat
  | .hbm => 5
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x1, .i32⟩
  | .hbm, ⟨3, _⟩ => ⟨S4x256x512, .f32⟩
  | .hbm, ⟨4, _⟩ => ⟨S64x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S64x512, .f32⟩
  | .local _ .vmem, ⟨4, _⟩ => ⟨S768x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32 : BitVec 32 := 48#32
  let v279 : BitVec 32 := Scalar.muli v2 c48_i32
  let v280 : Index := Scalar.indexCast v279
  let c0_131 : Index := 0#32
  ![v280.toNat, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32_132 : BitVec 32 := 48#32
  let v284 : BitVec 32 := Scalar.muli v2 c48_i32_132
  let c0_i32_138 : BitVec 32 := 0#32
  ![v284.toNat, 0]
def k0_dev16 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_133 : BitVec 32 := 1#32
  let v285 : BitVec 32 := Scalar.addi v2 c1_i32_133
  let c16_i32_134 : BitVec 32 := 16#32
  let v286 : BitVec 32 := Scalar.remsi v285 c16_i32_134
  let c1_i32_136 : BitVec 32 := 1#32
  let v287 : BitVec 32 := Scalar.muli v286 c1_i32_136
  let v288 : BitVec 32 := Scalar.addi c0_i32_137 v287
  v288.toNat
def k0_dev17 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_140 : BitVec 32 := 2#32
  let v295 : BitVec 32 := Scalar.addi v2 c2_i32_140
  let c16_i32_141 : BitVec 32 := 16#32
  let v296 : BitVec 32 := Scalar.remsi v295 c16_i32_141
  let c1_i32_143 : BitVec 32 := 1#32
  let v297 : BitVec 32 := Scalar.muli v296 c1_i32_143
  let v298 : BitVec 32 := Scalar.addi c0_i32_144 v297
  v298.toNat
def k0_dev18 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_147 : BitVec 32 := 3#32
  let v305 : BitVec 32 := Scalar.addi v2 c3_i32_147
  let c16_i32_148 : BitVec 32 := 16#32
  let v306 : BitVec 32 := Scalar.remsi v305 c16_i32_148
  let c1_i32_150 : BitVec 32 := 1#32
  let v307 : BitVec 32 := Scalar.muli v306 c1_i32_150
  let v308 : BitVec 32 := Scalar.addi c0_i32_151 v307
  v308.toNat
def k0_dev19 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_154 : BitVec 32 := 4#32
  let v315 : BitVec 32 := Scalar.addi v2 c4_i32_154
  let c16_i32_155 : BitVec 32 := 16#32
  let v316 : BitVec 32 := Scalar.remsi v315 c16_i32_155
  let c1_i32_157 : BitVec 32 := 1#32
  let v317 : BitVec 32 := Scalar.muli v316 c1_i32_157
  let v318 : BitVec 32 := Scalar.addi c0_i32_158 v317
  v318.toNat
def k0_dev20 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_161 : BitVec 32 := 5#32
  let v325 : BitVec 32 := Scalar.addi v2 c5_i32_161
  let c16_i32_162 : BitVec 32 := 16#32
  let v326 : BitVec 32 := Scalar.remsi v325 c16_i32_162
  let c1_i32_164 : BitVec 32 := 1#32
  let v327 : BitVec 32 := Scalar.muli v326 c1_i32_164
  let v328 : BitVec 32 := Scalar.addi c0_i32_165 v327
  v328.toNat
def k0_dev21 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_168 : BitVec 32 := 6#32
  let v335 : BitVec 32 := Scalar.addi v2 c6_i32_168
  let c16_i32_169 : BitVec 32 := 16#32
  let v336 : BitVec 32 := Scalar.remsi v335 c16_i32_169
  let c1_i32_171 : BitVec 32 := 1#32
  let v337 : BitVec 32 := Scalar.muli v336 c1_i32_171
  let v338 : BitVec 32 := Scalar.addi c0_i32_172 v337
  v338.toNat
def k0_dev22 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_175 : BitVec 32 := 7#32
  let v345 : BitVec 32 := Scalar.addi v2 c7_i32_175
  let c16_i32_176 : BitVec 32 := 16#32
  let v346 : BitVec 32 := Scalar.remsi v345 c16_i32_176
  let c1_i32_178 : BitVec 32 := 1#32
  let v347 : BitVec 32 := Scalar.muli v346 c1_i32_178
  let v348 : BitVec 32 := Scalar.addi c0_i32_179 v347
  v348.toNat
def k0_dev23 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_182 : BitVec 32 := 8#32
  let v355 : BitVec 32 := Scalar.addi v2 c8_i32_182
  let c16_i32_183 : BitVec 32 := 16#32
  let v356 : BitVec 32 := Scalar.remsi v355 c16_i32_183
  let c1_i32_185 : BitVec 32 := 1#32
  let v357 : BitVec 32 := Scalar.muli v356 c1_i32_185
  let v358 : BitVec 32 := Scalar.addi c0_i32_186 v357
  v358.toNat
def k0_dev24 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_189 : BitVec 32 := 9#32
  let v365 : BitVec 32 := Scalar.addi v2 c9_i32_189
  let c16_i32_190 : BitVec 32 := 16#32
  let v366 : BitVec 32 := Scalar.remsi v365 c16_i32_190
  let c1_i32_192 : BitVec 32 := 1#32
  let v367 : BitVec 32 := Scalar.muli v366 c1_i32_192
  let v368 : BitVec 32 := Scalar.addi c0_i32_193 v367
  v368.toNat
def k0_dev25 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_196 : BitVec 32 := 10#32
  let v375 : BitVec 32 := Scalar.addi v2 c10_i32_196
  let c16_i32_197 : BitVec 32 := 16#32
  let v376 : BitVec 32 := Scalar.remsi v375 c16_i32_197
  let c1_i32_199 : BitVec 32 := 1#32
  let v377 : BitVec 32 := Scalar.muli v376 c1_i32_199
  let v378 : BitVec 32 := Scalar.addi c0_i32_200 v377
  v378.toNat
def k0_dev26 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_203 : BitVec 32 := 11#32
  let v385 : BitVec 32 := Scalar.addi v2 c11_i32_203
  let c16_i32_204 : BitVec 32 := 16#32
  let v386 : BitVec 32 := Scalar.remsi v385 c16_i32_204
  let c1_i32_206 : BitVec 32 := 1#32
  let v387 : BitVec 32 := Scalar.muli v386 c1_i32_206
  let v388 : BitVec 32 := Scalar.addi c0_i32_207 v387
  v388.toNat
def k0_dev27 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_210 : BitVec 32 := 12#32
  let v395 : BitVec 32 := Scalar.addi v2 c12_i32_210
  let c16_i32_211 : BitVec 32 := 16#32
  let v396 : BitVec 32 := Scalar.remsi v395 c16_i32_211
  let c1_i32_213 : BitVec 32 := 1#32
  let v397 : BitVec 32 := Scalar.muli v396 c1_i32_213
  let v398 : BitVec 32 := Scalar.addi c0_i32_214 v397
  v398.toNat
def k0_dev28 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_217 : BitVec 32 := 13#32
  let v405 : BitVec 32 := Scalar.addi v2 c13_i32_217
  let c16_i32_218 : BitVec 32 := 16#32
  let v406 : BitVec 32 := Scalar.remsi v405 c16_i32_218
  let c1_i32_220 : BitVec 32 := 1#32
  let v407 : BitVec 32 := Scalar.muli v406 c1_i32_220
  let v408 : BitVec 32 := Scalar.addi c0_i32_221 v407
  v408.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_224 : BitVec 32 := 14#32
  let v415 : BitVec 32 := Scalar.addi v2 c14_i32_224
  let c16_i32_225 : BitVec 32 := 16#32
  let v416 : BitVec 32 := Scalar.remsi v415 c16_i32_225
  let c1_i32_227 : BitVec 32 := 1#32
  let v417 : BitVec 32 := Scalar.muli v416 c1_i32_227
  let v418 : BitVec 32 := Scalar.addi c0_i32_228 v417
  v418.toNat
def k0_dev30 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_231 : BitVec 32 := 15#32
  let v425 : BitVec 32 := Scalar.addi v2 c15_i32_231
  let c16_i32_232 : BitVec 32 := 16#32
  let v426 : BitVec 32 := Scalar.remsi v425 c16_i32_232
  let c1_i32_234 : BitVec 32 := 1#32
  let v427 : BitVec 32 := Scalar.muli v426 c1_i32_234
  let v428 : BitVec 32 := Scalar.addi c0_i32_235 v427
  v428.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v435 : BitVec 32 := Scalar.muli v2 c64_i32
  let v436 : Index := Scalar.indexCast v435
  let c0_238 : Index := 0#32
  ![v436.toNat, 0]
def k0_off5 (d0 : Dev nD) (c1_i32_269 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v543 : BitVec 32 := Scalar.addi v2 c1_i32_269
  let c16_i32_270 : BitVec 32 := 16#32
  let v544 : BitVec 32 := Scalar.remsi v543 c16_i32_270
  ![v544.toNat]
def k0_off6 (d0 : Dev nD) (c1_i32_269 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v543 : BitVec 32 := Scalar.addi v2 c1_i32_269
  let c16_i32_270 : BitVec 32 := 16#32
  let v544 : BitVec 32 := Scalar.remsi v543 c16_i32_270
  let c48_i32_271 : BitVec 32 := 48#32
  let v545 : BitVec 32 := Scalar.muli v544 c48_i32_271
  let c0_i32_275 : BitVec 32 := 0#32
  ![v545.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S64 : Shape := ⟨1, ![64]⟩
abbrev S1x64 : Shape := ⟨2, ![1, 64]⟩
abbrev S1024x64 : Shape := ⟨2, ![1024, 64]⟩
abbrev S_ : Shape := ⟨0, ![]⟩
abbrev S1024x64x512 : Shape := ⟨3, ![1024, 64, 512]⟩
abbrev S1024x64x1 : Shape := ⟨3, ![1024, 64, 1]⟩
abbrev S1024x512 : Shape := ⟨2, ![1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x1, .i32⟩
  | .hbm, ⟨3, _⟩ => ⟨S64x256x512, .f32⟩
  | .hbm, ⟨4, _⟩ => ⟨S64, .i32⟩
  | .hbm, ⟨5, _⟩ => ⟨S1x64, .i32⟩
  | .hbm, ⟨6, _⟩ => ⟨S1024x64, .i32⟩
  | .hbm, ⟨7, _⟩ => ⟨S1024x64, .i32⟩
  | .hbm, ⟨8, _⟩ => ⟨S1024x64, .i1⟩
  | .hbm, ⟨9, _⟩ => ⟨S1024x64, .i32⟩
  | .hbm, ⟨10, _⟩ => ⟨S_, .i32⟩
  | .hbm, ⟨11, _⟩ => ⟨S_, .i32⟩
  | .hbm, ⟨12, _⟩ => ⟨S1024x64, .i32⟩
  | .hbm, ⟨13, _⟩ => ⟨S_, .i32⟩
  | .hbm, ⟨14, _⟩ => ⟨S1024x64, .i32⟩
  | .hbm, ⟨15, _⟩ => ⟨S1024x64, .i1⟩
  | .hbm, ⟨16, _⟩ => ⟨S1024x64, .i1⟩
  | .hbm, ⟨17, _⟩ => ⟨S1024x64x512, .f32⟩
  | .hbm, ⟨18, _⟩ => ⟨S1024x64x1, .i1⟩
  | .hbm, ⟨19, _⟩ => ⟨S_, .f32⟩
  | .hbm, ⟨20, _⟩ => ⟨S_, .f32⟩
  | .hbm, ⟨21, _⟩ => ⟨S1024x64x512, .i1⟩
  | .hbm, ⟨22, _⟩ => ⟨S1024x64x512, .f32⟩
  | .hbm, ⟨23, _⟩ => ⟨S1024x64x512, .f32⟩
  | .hbm, ⟨24, _⟩ => ⟨S_, .f32⟩
  | .hbm, ⟨25, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Slots.lean ====
/-
# `Slots`: the ring of devices and the sixteen slots of the gathered buffer

Every device keeps one gathered buffer of 768 rows, cut into sixteen slots of 48 rows: slot `o` holds the slab that
device `o` computed. Device `c` names its fifteen peers by the hop `h`: `peer c h` is `h + 1` places after it. This
module has the arithmetic of peers, the slots as views of the buffer, that the slots partition it, and what a slot
written from a slot holds.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds.Family
public import Idealize.ShloMosaic.Lib.Transfers
public import Idealize.ShloMosaic.Lib.Ring
public import Idealize.ShloMosaic.Lib.Tactic

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Peers -/

/-- The device `h + 1` places after `c` on the ring of sixteen. -/
def peer (c : Dev nD) (h : ℕ) : Dev nD := ⟨(c.val + h + 1) % 16, Nat.mod_lt _ (by decide)⟩

theorem peer_val (c : Dev nD) (h : ℕ) : (peer c h).val = (c.val + h + 1) % 16 := rfl

/-- A hop of fewer than sixteen places leads to another device. -/
theorem peer_ne (c : Dev nD) {h : ℕ} (hh : h < 15) : peer c h ≠ c := fun e => by
  have := congrArg Fin.val e; rw [peer_val] at this; have hc : c.val < 16 := c.isLt; omega

/-- Different hops lead to different devices. -/
theorem peer_inj (c : Dev nD) {h h' : ℕ} (hh : h < 15) (hh' : h' < 15) (e : peer c h = peer c h') : h = h' := by
  have := congrArg Fin.val e; rw [peer_val, peer_val] at this; have hc : c.val < 16 := c.isLt; omega

/-- Every other device is at some hop. -/
theorem exists_peer (c d : Dev nD) (hd : d ≠ c) : ∃ h, h < 15 ∧ peer c h = d := by
  have hc : c.val < 16 := c.isLt
  have hd' : d.val < 16 := d.isLt
  have hne : d.val ≠ c.val := fun e => hd (Fin.ext e)
  refine ⟨(d.val + 15 - c.val) % 16, by omega, Fin.ext ?_⟩
  rw [peer_val]; omega

/-- The other devices are the fifteen peers. -/
theorem erase_eq_peers (c : Dev nD) : (Finset.univ.erase c : Finset (Dev nD)) = (Finset.Ico 0 15).image (peer c) := by
  ext d
  rw [Finset.mem_erase, Finset.mem_image]
  constructor
  · rintro ⟨h, -⟩
    obtain ⟨k, hk, e⟩ := exists_peer c d h
    exact ⟨k, Finset.mem_Ico.mpr ⟨Nat.zero_le _, hk⟩, e⟩
  · rintro ⟨k, hk, rfl⟩
    exact ⟨peer_ne c (Finset.mem_Ico.mp hk).2, Finset.mem_univ _⟩

/-- A family over the other devices, hop by hop. -/
theorem bigSep_erase_peers {M : Type} [URA M] (c : Dev nD) (Φ : Dev nD → sProp M) :
    bigSep (Finset.univ.erase c) Φ = bigSep (Finset.Ico 0 15) fun h => Φ (peer c h) := by
  rw [erase_eq_peers]
  exact bigSep_image_of_injOn (Φ := Φ) fun h hh h' hh' e =>
    peer_inj c (Finset.mem_Ico.mp (Finset.mem_coe.mp hh)).2 (Finset.mem_Ico.mp (Finset.mem_coe.mp hh')).2 e

/-- A family over all devices: device `c`'s own member and the fifteen peers', hop by hop. -/
theorem bigSep_own_peers {M : Type} [URA M] (c : Dev nD) (Φ : Dev nD → sProp M) :
    bigSep Finset.univ Φ = iprop(Φ c ∗ bigSep (Finset.Ico 0 15) fun h => Φ (peer c h)) := by
  rw [bigSep_erase (Finset.mem_univ c), bigSep_erase_peers]; rfl

/-! ## The slots -/

/-- The gathered buffer. -/
abbrev gM : Memref sig .tc .vmem S768x512 .bf16 := Memref.whole cc0_scratch0

/-- Slot `o` of the gathered buffer. -/
abbrev slotM (o : Dev nD) : Memref sig .tc .vmem S48x512 .bf16 :=
  gM.slice (Rect.unit (s := S768x512) (k0_off3 o) S48x512.size (k0_off3_inb o)) (fun _ => rfl)

/-- The elements of slot `o`: rows `48 o` to `48 o + 47`. -/
def slotSet (o : Dev nD) : Finset S768x512.Idx := (slotM o).view.set

theorem mem_slotSet (o : Dev nD) (i : S768x512.Idx) : i ∈ slotSet o ↔ 48 * o.val ≤ (i 0).val ∧ (i 0).val < 48 * o.val + 48 := by
  show i ∈ ((View.whole cc0_scratch0).slice (Rect.unit (s := S768x512) (k0_off3 o) S48x512.size (k0_off3_inb o))).set ↔ _
  rw [View.set_slice_whole, Rect.mem_set_unit]
  simp only [k0_off3_eq]
  constructor
  · intro h; exact h 0
  · intro h a
    match a with
    | ⟨0, _⟩ => exact h
    | ⟨1, _⟩ => exact ⟨Nat.zero_le _, (i 1).isLt⟩

theorem slot_disjoint (o o' : Dev nD) (h : o ≠ o') : Disjoint (slotSet o) (slotSet o') := by
  rw [Finset.disjoint_left]
  intro i hi hi'
  rw [mem_slotSet] at hi hi'
  exact h (Fin.ext (by omega))

/-- The device whose slot row `i` lies in. -/
def slotOf (i : S768x512.Idx) : Dev nD := ⟨(i 0).val / 48, by have : (i 0).val < 768 := (i 0).isLt; show _ < 16; omega⟩

theorem mem_slotSet_slotOf (i : S768x512.Idx) : i ∈ slotSet (slotOf i) := by
  rw [mem_slotSet]; show 48 * ((i 0).val / 48) ≤ _ ∧ _ < 48 * ((i 0).val / 48) + 48; omega

theorem slot_cover : (Finset.univ : Finset (Dev nD)).biUnion slotSet = Finset.univ := by
  ext i
  simp only [Finset.mem_biUnion, Finset.mem_univ, true_and, iff_true]
  exact ⟨slotOf i, mem_slotSet_slotOf i⟩

/-- Row `i`'s place inside its slot. -/
def inSlot (i : S768x512.Idx) : S48x512.Idx := fun | ⟨0, _⟩ => ⟨(i 0).val % 48, Nat.mod_lt _ (by decide)⟩ | ⟨1, _⟩ => i 1

/-- Sixteen slabs laid out slot by slot. -/
def layout (sl : Dev nD → Vec F S48x512 .bf16) : (cc0_scratch0 : Ref sig .tc).ty.Contents (Elt F) := fun i => sl (slotOf i) (inSlot i)

/-- A slot of the laid-out slabs reads the slab. -/
theorem read_layout (sl : Dev nD → Vec F S48x512 .bf16) (o : Dev nD) : (slotM o).view.read (Elt F) (layout sl) = sl o := by
  funext x
  show layout sl ((Rect.unit (s := S768x512) (k0_off3 o) S48x512.size (k0_off3_inb o)).emb x) = sl o x
  have h0 : (((Rect.unit (s := S768x512) (k0_off3 o) S48x512.size (k0_off3_inb o)).emb x) 0).val = 48 * o.val + (x 0).val := by
    rw [Rect.emb_apply]; simp only [Rect.off_unit, Rect.stride_unit, k0_off3_eq]; show 48 * o.val + 1 * _ = _; rw [Nat.one_mul]
  have h1 : (((Rect.unit (s := S768x512) (k0_off3 o) S48x512.size (k0_off3_inb o)).emb x) 1).val = (x 1).val := by
    rw [Rect.emb_apply]; simp only [Rect.off_unit, Rect.stride_unit, k0_off3_eq]; show 0 + 1 * _ = _; omega
  have hx0 : (x 0).val < 48 := (x 0).isLt
  have e1 : slotOf ((Rect.unit (s := S768x512) (k0_off3 o) S48x512.size (k0_off3_inb o)).emb x) = o :=
    Fin.ext (by show _ / 48 = _; rw [h0]; omega)
  have e2 : inSlot ((Rect.unit (s := S768x512) (k0_off3 o) S48x512.size (k0_off3_inb o)).emb x) = x := by
    funext a
    match a with
    | ⟨0, _⟩ => exact Fin.ext (by show _ % 48 = _; rw [h0]; show _ = (x 0).val; omega)
    | ⟨1, _⟩ => exact Fin.ext h1
  unfold layout; rw [e1, e2]

/-- Writing a slab into a view of the slot's elements makes the slot hold the laid-out slabs there. -/
theorem write_layout (sl : Dev nD → Vec F S48x512 .bf16) (o : Dev nD) (f : (cc0_scratch0 : Ref sig .tc).ty.Contents (Elt F)) :
    ∀ i ∈ slotSet o, (slotM o).view.write (Elt F) f (sl o) Finset.univ i = layout sl i := by
  intro i hi
  obtain ⟨x, -, rfl⟩ := Finset.mem_map.mp hi
  refine (View.write_emb_of_mem (v := (slotM o).view) f (sl o) (Finset.mem_univ x)).trans ?_
  rw [← read_layout sl o]
  rfl

end Cert.Dispatch

end
-- ==== Proof.Protocol.lean ====
/-
# `Protocol`: who signals and copies onto which semaphore, and what each arrival hands over

Device `c` owns thirty-two semaphores of the exchange.

* Its BARRIER semaphore. Each of the other fifteen devices signals it once, by one unit, and `c` waits for fifteen. The
  signal of device `d` hands `c` the slot of `d`'s gathered buffer that `c` is going to fill: full ownership of slot `c`
  on device `d`, at whatever it holds.
* Fifteen SEND semaphores, one per hop. Only `c`'s own copy to the peer at that hop completes on it. The arrival hands
  back the share of `c`'s own slot that the copy read.
* Sixteen RECEIVE semaphores, one per origin. Only the copy of device `o` completes on the one of origin `o`; nothing
  completes on the one of origin `c`. The arrival hands over slot `o` of `c`'s gathered buffer, holding device `o`'s slab.

In program order: fifteen signals, the barrier wait, the slab written into the own slot, fifteen copies, fifteen receive
waits, the read of the whole gathered buffer, fifteen send waits.

The slabs are stated with their contents: `slab m o` is what device `o` computes from its own tokens, expert indices and
expert weights at launch, `gath m` the buffer with all sixteen.
-/
module

public import proofs.«01_k».proof.Proof.Slots

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

/-! ## The resource algebra: the pipeline library's part and the exchange's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What a device computes -/

/-- The device's number as the kernel computes it. -/
def myWord (d : Dev nD) : BitVec 32 := Scalar.remsi (Scalar.divsi (Dev.word d) 1#32) 16#32

/-- The slab of a device: its selected tokens through its four experts, from the tokens, the expert indices and the four
    expert weights. -/
def slabOf (w : BitVec 32) (x : Vec F S1024x256 .f32) (idx : Vec F S1024x1 .i32) (W0 W1 W2 W3 : Vec F S1x256x512 .f32) : Vec F S48x512 .bf16 :=
  let v65 := k0_pay1 (F := F) idx
  let v80 := k0_pay2 (F := F) idx
  let v83 := k0_pay4 (F := F) v80
  let v113 := k0_pay5 w v65
  let v115 : BitVec 32 := Scalar.select (Scalar.cmpi .eq 12#32 0#32) 1#32 12#32
  let v139 := k0_pay9 (F := F) v83 v113 v115 k0_pay6 k0_pay7 k0_pay8 x
  let v140 : IVec S48x1 32 := iota .tc S48x1 32 [0] iota_S48x1_d0_w32
  let v171 := k0_pay11 (F := F) v83 v113 v115 k0_pay6 k0_pay7 k0_pay8 x
  let v209 := k0_pay12 (F := F) v139 v140 (k0_pay10 (F := F)) v171 W0 W1
  let v243 := k0_pay15 (F := F) v139 v140 v209 12#32 (k0_pay13 v140) k0_pay14 W2
  k0_pay18 (F := F) v139 v140 v243 12#32 (k0_pay16 v140) (k0_pay17 v140) (Scalar.extui (Scalar.cmpi .sgt 12#32 0#32))
    (Scalar.extui (Scalar.cmpi .slt 12#32 0#32)) W3

/-- The result of a device: its rows of the result selected from the gathered buffer, from the expert indices of all
    tokens, of its own 64 tokens, and the gathered buffer. -/
def outOf (w : BitVec 32) (idx : Vec F S1024x1 .i32) (mine : Vec F S64x1 .i32) (g : Vec F S768x512 .bf16) : FVec F S64x512 .f32 :=
  let v82 := k0_pay3 (F := F) (k0_pay2 (F := F) idx)
  let v448 := k0_pay20 (F := F) w v82
  let v449 : IVec S64x768 32 := iota .tc S64x768 32 [1] iota_S64x768_d1_w32
  k0_pay24 (F := F) (k0_pay23 (F := F) v448 v449 (k0_pay22 (k0_pay19 (F := F) mine) v449 k0_pay21) 12#32) g

variable (m : (ℓ : Loc nD τ sig) → Buf (Elt F) ℓ)

/-- Device `c`'s tokens, expert indices and expert weights at launch, as its staging buffers hold them. -/
def xIn (c : Dev nD) : (cc0_stg0_0 : Ref sig .tc).ty.Contents (Elt F) := (win0_0.blk (0 : Fin 1)).view.read (Elt F) (m ((c : Thread nD τ).loc main_arg0))
def idxIn (c : Dev nD) : (cc0_stg1_0 : Ref sig .tc).ty.Contents (Elt F) := (win0_1.blk (0 : Fin 1)).view.read (Elt F) (m ((c : Thread nD τ).loc main_arg2))
def wIn (c : Dev nD) : (cc0_stg2_0 : Ref sig .tc).ty.Contents (Elt F) := (win0_2.blk (0 : Fin 1)).view.read (Elt F) (m ((c : Thread nD τ).loc main_arg3))

/-- One expert's weights out of the four. -/
def wAt (off : Fin 3 → ℕ) (h : ∀ a, off a + S1x256x512.size a ≤ S4x256x512.size a) (f : (cc0_stg2_0 : Ref sig .tc).ty.Contents (Elt F)) : Vec F S1x256x512 .f32 :=
  (Memref.whole cc0_stg2_0 : Memref sig .tc .vmem S4x256x512 .f32).view.readAt (Elt F) (Rect.unit (s := S4x256x512) off S1x256x512.size h).toLoadRect f

/-- Device `c`'s own 64 expert indices. -/
def mineAt (c : Dev nD) (f : (cc0_stg1_0 : Ref sig .tc).ty.Contents (Elt F)) : Vec F S64x1 .i32 :=
  (Memref.whole cc0_stg1_0 : Memref sig .tc .vmem S1024x1 .i32).view.readAt (Elt F) (Rect.unit (s := S1024x1) (k0_off4 c) S64x1.size (k0_off4_inb c)).toLoadRect f

/-- The slab of device `o`. -/
def slab (o : Dev nD) : Vec F S48x512 .bf16 :=
  slabOf (myWord o) (xIn m o) (idxIn m o) (wAt ![0, 0, 0] inb_S4x256x512_S1x256x512_0_0_0 (wIn m o)) (wAt ![1, 0, 0] inb_S4x256x512_S1x256x512_1_0_0 (wIn m o))
    (wAt ![2, 0, 0] inb_S4x256x512_S1x256x512_2_0_0 (wIn m o)) (wAt ![3, 0, 0] inb_S4x256x512_S1x256x512_3_0_0 (wIn m o))

/-- The gathered buffer: every device's slab in its slot. -/
def gath : (cc0_scratch0 : Ref sig .tc).ty.Contents (Elt F) := layout (slab m)

/-- The result of device `c`. -/
def outAt (c : Dev nD) : (cc0_stg3_0 : Ref sig .tc).ty.Contents (Elt F) := outOf (myWord c) (idxIn m c) (mineAt c (idxIn m c)) (gath m)

/-! ## The semaphores -/

/-- The barrier semaphore, the send semaphore of a hop, the receive semaphore of an origin. -/
abbrev barS : Sem sig := (SemArray.scalar (sig.barrier 0 rfl) : Sems sig S_).sem
def sndS (h : ℕ) : DmaSem sig := ⟨(4 + h) % 35, Nat.mod_lt _ (by decide)⟩
def rcvS (o : Dev nD) : DmaSem sig := ⟨(19 + o.val) % 35, Nat.mod_lt _ (by decide)⟩

abbrev barCell (c : Dev nD) : GSem nD τ sig := ((c : Thread nD τ), .reg barS)
abbrev sndCell (c : Dev nD) (h : ℕ) : GSem nD τ sig := ((c : Thread nD τ), .dma (sndS h))
abbrev rcvCell (c o : Dev nD) : GSem nD τ sig := ((c : Thread nD τ), .dma (rcvS o))

/-- What a copy of a slot credits. -/
abbrev N : ℕ := (slotM 0).view.dmaCredit
theorem N_pos : 0 < N := View.dmaCredit_pos _ (by decide)

/-- Slot `o` of device `d`'s gathered buffer, held at share `q` with contents `f`. -/
def slotPts (d o : Dev nD) (q : PosShare TreeShare) (f : (cc0_scratch0 : Ref sig .tc).ty.Contents (Elt F)) : sProp 𝕄 :=
  (slotM o).view.loc (d : Thread nD τ) ↦[(slotM o).view.set]{q} f

instance slotPts_storable (d o : Dev nD) (q : PosShare TreeShare) (f) : BI.Storable (upEmb : UEmb _ 𝕄) (slotPts (F := F) d o q f) := by
  unfold slotPts; infer_instance

/-! ## The schedule -/

/-- The duties of device `d`'s semaphore: all other devices at the barrier, `d` itself at a send semaphore, the origin at
    a receive semaphore. -/
def dutyOf (d : Dev nD) : SemLoc sig → Finset (Dev nD)
  | .reg s => if s = barS then Finset.univ.erase d else ∅
  | .dma q => if 4 ≤ q.val ∧ q.val < 19 then {d} else Finset.univ.filter fun o => o ≠ d ∧ 19 + o.val = q.val

/-- The exchange's one round. -/
def exRd : Rounds.Schedule (GSem nD τ sig) (Dev nD) 𝕄 where
  duties g r := if r = 0 ∧ g.1.2 = .tc then dutyOf g.1.1 g.2 else ∅
  unitless _ := False
  amount g _ _ := match g.2 with | .reg _ => 1 | .dma _ => N
  payload g _ d := match g.2 with
    | .reg _ => iprop(∃ f, slotPts d g.1.1 fullShare f)
    | .dma q => if q.val < 19 then slotPts g.1.1 g.1.1 (shareTokN fullShare (q.val - 4)) (gath m) else slotPts g.1.1 d fullShare (gath m)
  amount_pos g _ _ _ := by
    rcases g with ⟨_, _ | _⟩
    · exact Nat.one_pos
    · exact N_pos

instance exRd_payload_storable (g : GSem nD τ sig) (r : ℕ) (d : Dev nD) : BI.Storable (upEmb : UEmb _ 𝕄) ((exRd (F := F) m).payload g r d) := by
  rcases g with ⟨t, s | q⟩
  · show BI.Storable upEmb (iprop(∃ f, slotPts d t.1 fullShare f))
    infer_instance
  · show BI.Storable upEmb (if q.val < 19 then slotPts t.1 t.1 (shareTokN fullShare (q.val - 4)) (gath m) else slotPts t.1 d fullShare (gath m))
    split <;> infer_instance

theorem sndS_val {h : ℕ} (hh : h < 15) : (sndS h).val = 4 + h := Nat.mod_eq_of_lt (by omega)
theorem rcvS_val (o : Dev nD) : (rcvS o).val = 19 + o.val := Nat.mod_eq_of_lt (by have : o.val < 16 := o.isLt; omega)

section Sched
variable (c : Dev nD)

theorem duties_bar : (exRd (F := F) m).duties (barCell c) 0 = Finset.univ.erase c := by
  show (if (0 = 0 ∧ (Proc.tc : Proc τ) = .tc) then dutyOf c (.reg barS) else ∅) = _
  rw [if_pos ⟨rfl, rfl⟩]; unfold dutyOf; exact if_pos rfl

theorem duties_snd {h : ℕ} (hh : h < 15) : (exRd (F := F) m).duties (sndCell c h) 0 = {c} := by
  show (if (0 = 0 ∧ (Proc.tc : Proc τ) = .tc) then dutyOf c (.dma (sndS h)) else ∅) = _
  rw [if_pos ⟨rfl, rfl⟩]; exact if_pos (by rw [sndS_val hh]; omega)

theorem duties_rcv {o : Dev nD} (ho : o ≠ c) : (exRd (F := F) m).duties (rcvCell c o) 0 = {o} := by
  show (if (0 = 0 ∧ (Proc.tc : Proc τ) = .tc) then dutyOf c (.dma (rcvS o)) else ∅) = _
  rw [if_pos ⟨rfl, rfl⟩]
  refine (if_neg (by rw [rcvS_val]; omega)).trans ?_
  ext d
  rw [Finset.mem_filter, Finset.mem_singleton, rcvS_val]
  constructor
  · rintro ⟨-, -, h⟩; exact Fin.ext (by omega)
  · rintro rfl; exact ⟨Finset.mem_univ _, ho, rfl⟩

theorem duties_rcv_self : (exRd (F := F) m).duties (rcvCell c c) 0 = ∅ := by
  show (if (0 = 0 ∧ (Proc.tc : Proc τ) = .tc) then dutyOf c (.dma (rcvS c)) else ∅) = _
  rw [if_pos ⟨rfl, rfl⟩]
  refine (if_neg (by rw [rcvS_val]; omega)).trans ?_
  ext d
  rw [Finset.mem_filter, rcvS_val]
  constructor
  · rintro ⟨-, h, h'⟩; exact absurd (Fin.ext (by omega)) h
  · intro h; exact absurd h (Finset.notMem_empty _)

theorem duties_later (g : GSem nD τ sig) : ∀ r, 1 ≤ r → (exRd (F := F) m).duties g r = ∅ :=
  fun r hr => by dsimp only [exRd]; exact if_neg fun h => by omega

theorem expect_bar : (exRd (F := F) m).expect (barCell c) 0 = 15 := by
  unfold Schedule.expect Schedule.amountOf
  rw [duties_bar]
  show (∑ _d ∈ Finset.univ.erase c, 1) = 15
  rw [Finset.sum_const, Finset.card_erase_of_mem (Finset.mem_univ c), Finset.card_univ]; rfl

theorem expect_snd {h : ℕ} (hh : h < 15) : (exRd (F := F) m).expect (sndCell c h) 0 = N := by
  unfold Schedule.expect Schedule.amountOf; rw [duties_snd m c hh, Finset.sum_singleton]; rfl

theorem expect_rcv {o : Dev nD} (ho : o ≠ c) : (exRd (F := F) m).expect (rcvCell c o) 0 = N := by
  unfold Schedule.expect Schedule.amountOf; rw [duties_rcv m c ho, Finset.sum_singleton]; rfl

theorem payload_bar (d : Dev nD) : (exRd (F := F) m).payload (barCell c) 0 d = iprop(∃ f, slotPts d c fullShare f) := rfl

theorem payload_snd {h : ℕ} (hh : h < 15) (d : Dev nD) : (exRd (F := F) m).payload (sndCell c h) 0 d = slotPts c c (shareTokN fullShare h) (gath m) := by
  show (if (sndS h).val < 19 then slotPts c c (shareTokN fullShare ((sndS h).val - 4)) (gath m) else _) = _
  rw [if_pos (by rw [sndS_val hh]; omega), sndS_val hh, Nat.add_sub_cancel_left]

theorem payload_rcv (o d : Dev nD) : (exRd (F := F) m).payload (rcvCell c o) 0 d = slotPts c d fullShare (gath m) := by
  show (if (rcvS o).val < 19 then _ else slotPts c d fullShare (gath m)) = _
  rw [if_neg (by rw [rcvS_val]; omega)]

/-- All that the barrier's round hands over: every peer's slot that `c` is going to fill. -/
theorem rest_bar : bigSep ((exRd (F := F) m).duties (barCell c) 0 \ ∅) (fun d => (exRd (F := F) m).payload (barCell c) 0 d)
    = bigSep (Finset.Ico 0 15) fun h => iprop(∃ f, slotPts (peer c h) c fullShare f) := by
  rw [Finset.sdiff_empty, duties_bar, bigSep_erase_peers]; rfl

theorem rest_snd {h : ℕ} (hh : h < 15) : bigSep ((exRd (F := F) m).duties (sndCell c h) 0 \ ∅) (fun d => (exRd (F := F) m).payload (sndCell c h) 0 d)
    = slotPts c c (shareTokN fullShare h) (gath m) := by
  rw [Finset.sdiff_empty, duties_snd m c hh, bigSep_singleton, payload_snd m c hh]

theorem rest_rcv {o : Dev nD} (ho : o ≠ c) : bigSep ((exRd (F := F) m).duties (rcvCell c o) 0 \ ∅) (fun d => (exRd (F := F) m).payload (rcvCell c o) 0 d)
    = slotPts c o fullShare (gath m) := by
  rw [Finset.sdiff_empty, duties_rcv m c ho, bigSep_singleton, payload_rcv]

end Sched

/-! ## What each device owes at launch; the levels -/

/-- The receive credits device `c` still owes when the copies of the hops from `k` on are to come. -/
def oRcv (c : Dev nD) (k : ℕ) : CellTallies nD τ sig Unit := ∑ h ∈ Finset.Ico k 15, tallyAt (rcvCell (peer c h) c) () N
/-- The barrier units device `c` still owes when the signals of the hops from `k` on are to come. -/
def oBar (c : Dev nD) (k : ℕ) : CellTallies nD τ sig Unit := ∑ h ∈ Finset.Ico k 15, tallyAt (barCell (peer c h)) () 1
/-- What device `c` owes at launch. -/
def O₀ (c : Dev nD) : CellTallies nD τ sig Unit := oRcv c 0 + oBar c 0

theorem Ico_step {k : ℕ} (hk : k < 15) : Finset.Ico k 15 = insert k (Finset.Ico (k + 1) 15) := by
  ext x; simp only [Finset.mem_Ico, Finset.mem_insert]; omega

theorem oRcv_step (c : Dev nD) {k : ℕ} (hk : k < 15) : oRcv c k = oRcv c (k + 1) + tallyAt (rcvCell (peer c k) c) () N := by
  unfold oRcv; rw [Ico_step hk, Finset.sum_insert (by rw [Finset.mem_Ico]; omega), add_comm]
theorem oBar_step (c : Dev nD) {k : ℕ} (hk : k < 15) : oBar c k = oBar c (k + 1) + tallyAt (barCell (peer c k)) () 1 := by
  unfold oBar; rw [Ico_step hk, Finset.sum_insert (by rw [Finset.mem_Ico]; omega), add_comm]
theorem oRcv_last (c : Dev nD) : oRcv c 15 = 0 := by unfold oRcv; rw [Finset.Ico_self, Finset.sum_empty]
theorem oBar_last (c : Dev nD) : oBar c 15 = 0 := by unfold oBar; rw [Finset.Ico_self, Finset.sum_empty]

def L (g : GSem nD τ sig) : Finset Unit := if g.1.2 = .tc then {()} else ∅
/-- Barrier semaphores at 1, receive semaphores at 2, everything else (staging, send) at 0. -/
def lv (g : GSem nD τ sig) (_ : Unit) : ℕ := match g.2 with | .reg _ => 1 | .dma q => if 19 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c o : Dev nD) : lv (rcvCell c o) () = 2 := if_pos (by rw [rcvS_val]; omega)
theorem lv_bar (c : Dev nD) : lv (barCell c) () = 1 := rfl

/-- A sum of tallies is positive only where one of them is. -/
theorem sum_tally_pos {g : GSem nD τ sig} {u : Unit} {s : Finset ℕ} {cell : ℕ → GSem nD τ sig} {n : ℕ}
    (h : 0 < (∑ k ∈ s, tallyAt (cell k) () n : CellTallies nD τ sig Unit) g u) : ∃ k ∈ s, g = cell k := by
  rw [Finset.sum_apply, Finsupp.finset_sum_apply] at h
  by_contra hn
  refine absurd h (Nat.not_lt.mpr (le_of_eq (Finset.sum_eq_zero fun k hk => ?_)))
  rw [tallyAt_apply, if_neg fun e => hn ⟨k, hk, e.1⟩]

theorem oRcv_pos {c : Dev nD} {k : ℕ} {g : GSem nD τ sig} {u : Unit} (h : 0 < oRcv c k g u) : ∃ o d, g = rcvCell d o := by
  obtain ⟨j, -, e⟩ := sum_tally_pos h; exact ⟨_, _, e⟩
theorem oBar_pos {c : Dev nD} {k : ℕ} {g : GSem nD τ sig} {u : Unit} (h : 0 < oBar c k g u) : ∃ d, g = barCell d := by
  obtain ⟨j, -, e⟩ := sum_tally_pos h; exact ⟨_, e⟩
theorem O₀_pos {c : Dev nD} {g : GSem nD τ sig} {u : Unit} (h : 0 < O₀ c g u) : (∃ o d, g = rcvCell d o) ∨ ∃ d, g = barCell d := by
  unfold O₀ at h
  rw [Pi.add_apply, Finsupp.add_apply] at h
  rcases Nat.eq_zero_or_pos (oRcv c 0 g u) with h0 | h0
  · rw [h0, Nat.zero_add] at h; exact Or.inr (oBar_pos h)
  · exact Or.inl (oRcv_pos h0)

/-- A staging semaphore may be waited on whatever the device still owes. -/
theorem mayWait_stage (c : Dev nD) (q : DmaSem sig) (hq : q.val < 19) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, d, rfl⟩ | ⟨d, rfl⟩ <;> exact Finset.mem_singleton_self _)
      (fun p hp => by
        rw [Finset.mem_singleton.mp hp]
        show (if 19 ≤ q.val then 2 else 0) ≤ 0
        rw [if_neg (by omega)])
      (fun g u hg => by
        rcases O₀_pos hg with ⟨o, d, rfl⟩ | ⟨d, rfl⟩
        · rw [lv_rcv]; decide
        · rw [lv_bar]; decide)
  · rw [MayWait_zero]; iintro -; iempintro

/-- At its barrier wait a device owes receive credits only, which lie above the barrier. -/
theorem mayWait_bar (c : Dev nD) (k : ℕ) : (levAts L lv : sProp 𝕄) ⊢ MayWait (c : Thread nD τ) (.reg barS) () (oRcv c k) :=
  MayOwe.of_cut (L := L) (lev := lv) 1 (fun p hp => by rw [Finset.mem_singleton.mp hp, L_tc]; exact Finset.mem_singleton_self _)
    (fun g u hg => by obtain ⟨o, d, rfl⟩ := oRcv_pos hg; exact Finset.mem_singleton_self _)
    (fun p hp => by rw [Finset.mem_singleton.mp hp]; exact le_of_eq (lv_bar c))
    (fun g u hg => by obtain ⟨o, d, rfl⟩ := oRcv_pos hg; rw [lv_rcv]; decide)

end Cert.Dispatch

end
-- ==== Proof.Steps.lean ====
/-
# `Steps`: one lemma per communication step

Each of the four kinds of step — a barrier signal, a copy, a receive wait, a send wait — is done fifteen times, once per
hop. Each kind has a STATE indexed by the number `k` of steps already done, and one lemma that takes the state from `k` to
`k + 1` across the operation. The steps are stated for any operands equal to the protocol's.
-/
module

public import proofs.«01_k».proof.Proof.Protocol
public import Idealize.SL.BI.BigOpNat

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## A device's cells, numbered -/

/-- Semaphore `k` of a device: the barrier at 0, the sends at 1 to 15, the receives at 16 to 31. -/
def csem (k : Fin 32) : SemLoc sig := if k.val = 0 then .reg barS else .dma ⟨(3 + k.val) % 35, Nat.mod_lt _ (by decide)⟩
abbrev kcell (ck : Dev nD × Fin 32) : GSem nD τ sig := ((ck.1 : Thread nD τ), csem ck.2)

def sIx (h : ℕ) : Fin 32 := ⟨(1 + h) % 32, Nat.mod_lt _ (by decide)⟩
def rIx (o : Dev nD) : Fin 32 := ⟨(16 + o.val) % 32, Nat.mod_lt _ (by decide)⟩

theorem kcell_bar (c : Dev nD) : kcell (c, 0) = barCell c := rfl
theorem kcell_snd (c : Dev nD) {h : ℕ} (hh : h < 15) : kcell (c, sIx h) = sndCell c h := by
  refine Prod.ext rfl ?_
  show csem (sIx h) = .dma (sndS h)
  unfold csem
  have e : (sIx h).val = 1 + h := Nat.mod_eq_of_lt (by omega)
  rw [if_neg (by rw [e]; omega)]
  exact congrArg SemLoc.dma (Fin.ext (by show (3 + (sIx h).val) % 35 = (4 + h) % 35; rw [e]; congr 1; omega))
theorem kcell_rcv (c o : Dev nD) : kcell (c, rIx o) = rcvCell c o := by
  refine Prod.ext rfl ?_
  show csem (rIx o) = .dma (rcvS o)
  unfold csem
  have ho : o.val < 16 := o.isLt
  have e : (rIx o).val = 16 + o.val := Nat.mod_eq_of_lt (by omega)
  rw [if_neg (by rw [e]; omega)]
  exact congrArg SemLoc.dma (Fin.ext (by show (3 + (rIx o).val) % 35 = (19 + o.val) % 35; rw [e]; congr 1; omega))

/-- Every cell's invariant, under the names `K`, and that every cell has reached its round. -/
def records (K : Dev nD × Fin 32 → ℕ) : sProp 𝕄 :=
  iprop((bigSep Finset.univ fun ck : Dev nD × Fin 32 => cellInv ER (exRd m) (K ck) (kcell ck))
    ∗ bigSep Finset.univ fun ck : Dev nD × Fin 32 => reached ER (kcell ck) 0)

instance records_persistent (K : Dev nD × Fin 32 → ℕ) : BI.Persistent (records m K) := by unfold records; infer_instance

variable (K : Dev nD × Fin 32 → ℕ)

theorem records_at (ck : Dev nD × Fin 32) : records m K ⊢ iprop(cellInv ER (exRd m) (K ck) (kcell ck) ∗ reached ER (kcell ck) 0) :=
  BIClass.sep_mono (bigSep_elim (Finset.mem_univ ck)) (bigSep_elim (Finset.mem_univ ck))

theorem records_bar (c : Dev nD) : records m K ⊢ iprop(cellInv ER (exRd m) (K (c, 0)) (barCell c) ∗ reached ER (barCell c) 0) := records_at m K (c, 0)
theorem records_snd (c : Dev nD) {h : ℕ} (hh : h < 15) :
    records m K ⊢ iprop(cellInv ER (exRd m) (K (c, sIx h)) (sndCell c h) ∗ reached ER (sndCell c h) 0) := by
  rw [← kcell_snd c hh]; exact records_at m K (c, sIx h)
theorem records_rcv (c o : Dev nD) :
    records m K ⊢ iprop(cellInv ER (exRd m) (K (c, rIx o)) (rcvCell c o) ∗ reached ER (rcvCell c o) 0) := by
  rw [← kcell_rcv c o]; exact records_at m K (c, rIx o)

/-! ## Barrier signals -/

/-- What the signal of hop `h` spends: the token of device `c`'s duty at the peer, the slot of the peer on device `c`. -/
def sigRes (c : Dev nD) (h : ℕ) : sProp 𝕄 :=
  iprop(dutyTok ER (barCell (peer c h)) 0 c ∗ ∃ f, slotPts c (peer c h) fullShare f)

/-- `k` signals done. -/
def SigSt (c : Dev nD) (k : ℕ) : sProp 𝕄 :=
  iprop(records m K ∗ (∃ W, owes (c : Thread nD τ) (oRcv c 0 + oBar c k) W) ∗ bigSep (Finset.Ico k 15) (sigRes c))

theorem sig_step (c : Dev nD) (k : ℕ) (hk : k < 15) {n : Dev nD} (hn : n.val = (c.val + (k + 1)) % 16) {k' : ℕ} (hk' : 1 = k')
    {α : Type} {Q : α → sProp 𝕄} {kk : PUnit → Prog (TpuEff nD τ sig (Elt F) Λ₀ .tc) α} :
    SigSt m K c k ⊢ iprop((SigSt m K c (k + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS k') kk) Q) := by
  obtain rfl : n = peer c k := Fin.ext hn
  subst hk'
  unfold SigSt
  rw [bigSep_Ico_succ_bot hk]
  iintro ⟨#HR, ⟨%W, HO⟩, ⟨Hs, Hrest⟩⟩ Hk
  unfold sigRes
  icases Hs with ⟨Ht, Hslot⟩
  ihave HI := (records_bar m K (peer c k)) $$ HR
  icases HI with ⟨#HI, #Hr⟩
  iapply (Rounds.wp_signal 𝒱₀ ER (exRd m) (c : Thread nD τ) none (dst := (peer c k : Thread nD τ)) (κ := K (peer c k, 0)) (r := 0)
      (d := c) (by rw [duties_bar]; exact Finset.mem_erase.mpr ⟨(peer_ne c hk).symm, Finset.mem_univ _⟩) rfl () (oRcv c 0 + oBar c (k + 1))
      ((congrArg (oRcv c 0 + ·) (oBar_step c hk)).trans (add_assoc _ _ _).symm))
    $$ [HO Ht Hslot]
  · isplitr; · iexact HI
    isplitl [HO]; · iexact HO
    isplitl [Ht]; · iexact Ht
    isplitl [Hslot]
    · rw [payload_bar]; iexact Hslot
    iexact Hr
  iintro HO
  iapply Hk
  isplitr; · iexact HR
  isplitl [HO]; · iexists W; iexact HO
  iexact Hrest

/-- The barrier wait: every peer's slot for device `c` arrives. -/
theorem bar_step (c : Dev nD) {k' : ℕ} (hk' : 15 = k')
    {α : Type} {Q : α → sProp 𝕄} {kk : PUnit → Prog (TpuEff nD τ sig (Elt F) Λ₀ .tc) α} :
    iprop(SigSt m K c 15 ∗ levAts L lv ∗ cred (tallyAt (barCell c) () 15) ∗ atPos ER (barCell c) 0 ∅ 0)
      ⊢ iprop(((records m K ∗ (∃ W, owes (c : Thread nD τ) (oRcv c 0) W) ∗ atPos ER (barCell c) 1 ∅ 0
            ∗ bigSep (Finset.Ico 0 15) fun h => iprop(∃ f, slotPts (peer c h) c fullShare f))
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS k') kk) Q) := by
  subst hk'
  unfold SigSt
  rw [oBar_last, add_zero]
  iintro ⟨⟨#HR, ⟨%W, HO⟩, -⟩, #Hlev, Hc, Hat⟩ Hk
  ihave HI := (records_bar m K c) $$ HR
  icases HI with ⟨#HI, -⟩
  iapply (Rounds.wp_wait_rest_token 𝒱₀ ER (exRd m) (c : Thread nD τ) none (κ := K (c, 0))
      (wpE_semWait_eq 𝒱₀ (c : Thread nD τ) none Set.univ) (Set.mem_univ _) () (O := oRcv c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c 0); iexact Hlev
    iexact Hat
  iintro ⟨HO, Hat, -, Hpay⟩
  ihave Hp := (Entails.of_eq (rest_bar m c)) $$ Hpay
  iapply Hk
  isplitr; · iexact HR
  isplitl [HO]; · iexists _; iexact HO
  isplitl [Hat]; · iexact Hat
  iexact Hp

/-! ## Copies -/

/-- What the copy of hop `h` spends: the tokens of its two duties, the peer's slot for device `c`, a share of the own slot. -/
def sndRes (c : Dev nD) (h : ℕ) : sProp 𝕄 :=
  iprop(dutyTok ER (sndCell c h) 0 c ∗ dutyTok ER (rcvCell (peer c h) c) 0 c ∗ (∃ f, slotPts (peer c h) c fullShare f)
    ∗ slotPts c c (shareTokN fullShare h) (gath m))

/-- `k` copies started: a credit for each one's own arrival is held. -/
def SndSt (c : Dev nD) (k : ℕ) : sProp 𝕄 :=
  iprop(records m K ∗ (∃ W, owes (c : Thread nD τ) (oRcv c k) W) ∗ bigSep (Finset.Ico k 15) (sndRes m c)
    ∗ bigSep (Finset.Ico 0 k) fun h => cred (tallyAt (sndCell c h) () N))

theorem gath_landed (o d : Dev nD) (f : (cc0_scratch0 : Ref sig .tc).ty.Contents (Elt F)) :
    ((slotM o).view.loc (d : Thread nD τ) ↦[(slotM o).view.set]{fullShare} ((slotM o).view.write (Elt F) f ((slotM o).view.read (Elt F) (gath m)) Finset.univ) : sProp 𝕄)
      = slotPts d o fullShare (gath m) := by
  unfold slotPts
  refine pointsTo_congr fun i hi => ?_
  show (slotM o).view.write (Elt F) f ((slotM o).view.read (Elt F) (layout (slab m))) Finset.univ i = layout (slab m) i
  rw [read_layout]
  exact write_layout (slab m) o f i hi

theorem slot_credit (o : Dev nD) : (slotM o).view.dmaCredit = N := rfl

theorem snd_raw (c : Dev nD) (k : ℕ) (hk : k < 15)
    {hsc : (slotM c : Memref sig (Dev.tc (peer c k) : Thread nD τ).2.kind .vmem S48x512 .bf16).view.ref.isScScratch = false}
    {hsrc hdst : (slotM c).view.WordExact}
    {hsem : DmaTarget.Typed .vmem (.dma (rcvS c)) (.remote (Dev.tc (peer c k) : Thread nD τ) (slotM c : Memref sig (Dev.tc (peer c k) : Thread nD τ).2.kind .vmem S48x512 .bf16) (.dma (sndS k)) hsc)}
    {α : Type} {Q : α → sProp 𝕄} {kk : PUnit → Prog (TpuEff nD τ sig (Elt F) Λ₀ .tc) α}
    (f : (cc0_scratch0 : Ref sig .tc).ty.Contents (Elt F)) (W : Waits sig Unit) :
    iprop(cellInv ER (exRd m) (K (c, sIx k)) (sndCell c k) ∗ cellInv ER (exRd m) (K (peer c k, rIx c)) (rcvCell (peer c k) c)
        ∗ slotPts c c (shareTokN fullShare k) (gath m) ∗ slotPts (peer c k) c fullShare f
        ∗ owes (c : Thread nD τ) (oRcv c k) W
        ∗ dutyTok ER (sndCell c k) 0 c ∗ reached ER (sndCell c k) 0
        ∗ dutyTok ER (rcvCell (peer c k) c) 0 c ∗ reached ER (rcvCell (peer c k) c) 0)
      ⊢ iprop(((cred (tallyAt (sndCell c k) () N) ∗ owes (c : Thread nD τ) (oRcv c (k + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM c) (.remote (Dev.tc (peer c k) : Thread nD τ) (slotM c) (.dma (sndS k)) hsc) (.dma (rcvS c)) hsrc hdst hsem) kk) Q) := by
  have hp₂ := (Entails.of_eq (gath_landed m c (peer c k) f)).trans (Entails.of_eq (payload_rcv m (peer c k) c c).symm)
  have hp₁ := Entails.of_eq (payload_snd m c hk c).symm
  unfold slotPts at hp₁ ⊢
  exact Rounds.wp_send_pointsTo 𝒱₀ ER (exRd m) (c : Thread nD τ) none (c' := (Dev.tc (peer c k) : Thread nD τ)) (src := slotM c) (dst := slotM c)
      (sS := .dma (sndS k)) (sem := .dma (rcvS c)) (κ₁ := K (c, sIx k)) (κ₂ := K (peer c k, rIx c)) (fs := gath m) (q := shareTokN fullShare k)
      (r₁ := 0) (r₂ := 0) (d₁ := c) (d₂ := c) (fd := f)
      (by rw [duties_snd m c hk]; exact Finset.mem_singleton_self _)
      (by rw [duties_rcv m (peer c k) (peer_ne c hk).symm]; exact Finset.mem_singleton_self _)
      () () N (slot_credit c) rfl rfl (oRcv c (k + 1)) (oRcv_step c hk) (W := W) hp₁ hp₂

theorem snd_step (c : Dev nD) (k : ℕ) (hk : k < 15) {n : Dev nD} (hn : n.val = (c.val + (k + 1)) % 16) {sS rS : DmaSem sig} (hs : sS = sndS k) (hr : rS = rcvS c)
    {hsc : (slotM c : Memref sig (Dev.tc n : Thread nD τ).2.kind .vmem S48x512 .bf16).view.ref.isScScratch = false}
    {hsrc hdst : (slotM c).view.WordExact}
    {hsem : DmaTarget.Typed .vmem (.dma rS) (.remote (Dev.tc n : Thread nD τ) (slotM c : Memref sig (Dev.tc n : Thread nD τ).2.kind .vmem S48x512 .bf16) (.dma sS) hsc)}
    {α : Type} {Q : α → sProp 𝕄} {kk : PUnit → Prog (TpuEff nD τ sig (Elt F) Λ₀ .tc) α} :
    SndSt m K c k ⊢ iprop((SndSt m K c (k + 1) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (slotM c) (.remote (Dev.tc n : Thread nD τ) (slotM c) (.dma sS) hsc) (.dma rS) hsrc hdst hsem) kk) Q) := by
  obtain rfl : n = peer c k := Fin.ext hn
  subst hs hr
  unfold SndSt
  rw [bigSep_Ico_succ_bot hk, bigSep_Ico_succ_top (Nat.zero_le k)]
  iintro ⟨#HR, ⟨%W, HO⟩, ⟨Hs, Hrest⟩, Hcr⟩ Hk
  unfold sndRes
  icases Hs with ⟨HtS, HtR, ⟨%f, Hdst⟩, Hsrc⟩
  ihave HI := (records_snd m K c hk) $$ HR
  icases HI with ⟨#HIs, #Hrs⟩
  ihave HI := (records_rcv m K (peer c k) c) $$ HR
  icases HI with ⟨#HIr, #Hrr⟩
  iapply (snd_raw m K c k hk f W) $$ [HO HtS HtR Hdst Hsrc]
  · isplitr; · iexact HIs
    isplitr; · iexact HIr
    isplitl [Hsrc]; · iexact Hsrc
    isplitl [Hdst]; · iexact Hdst
    isplitl [HO]; · iexact HO
    isplitl [HtS]; · iexact HtS
    isplitr; · iexact Hrs
    isplitl [HtR]; · iexact HtR
    iexact Hrr
  iintro ⟨Hc, HO⟩
  iapply Hk
  isplitr; · iexact HR
  isplitl [HO]; · iexists W; iexact HO
  isplitl [Hrest]; · iexact Hrest
  isplitl [Hc] <;> iassumption

/-! ## Receive waits -/

/-- `k` peers' slabs arrived. -/
def RcvSt (c : Dev nD) (k : ℕ) : sProp 𝕄 :=
  iprop(records m K ∗ (∃ W, owes (c : Thread nD τ) 0 W)
    ∗ (bigSep (Finset.Ico k 15) fun h => iprop(cred (tallyAt (rcvCell c (peer c h)) () N) ∗ atPos ER (rcvCell c (peer c h)) 0 ∅ 0))
    ∗ bigSep (Finset.Ico 0 k) fun h => iprop(atPos ER (rcvCell c (peer c h)) 1 ∅ 0 ∗ slotPts c (peer c h) fullShare (gath m)))

theorem rcv_step (c : Dev nD) (k : ℕ) (hk : k < 15) {rS : DmaSem sig} (hr : rS = rcvS (peer c k)) {src dst : Memref sig .tc .vmem S48x512 .bf16}
    (hd : dst.view.dmaCredit = N) {hsrc : src.view.WordExact} {hdst : dst.view.WordExact}
    {α : Type} {Q : α → sProp 𝕄} {kk : PUnit → Prog (TpuEff nD τ sig (Elt F) Λ₀ .tc) α} :
    RcvSt m K c k ⊢ iprop((RcvSt m K c (k + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 rS src dst hsrc hdst) kk) Q) := by
  subst hr
  unfold RcvSt
  rw [bigSep_Ico_succ_bot hk, bigSep_Ico_succ_top (Nat.zero_le k)]
  iintro ⟨#HR, ⟨%W, HO⟩, ⟨⟨Hc, Hat⟩, Hrest⟩, Hdone⟩ Hk
  ihave HI := (records_rcv m K c (peer c k)) $$ HR
  icases HI with ⟨#HI, -⟩
  iapply (Rounds.wp_wait_rest_token 𝒱₀ ER (exRd m) (c : Thread nD τ) none (κ := K (c, rIx (peer c k)))
      (wpE_waitDma2_eq 𝒱₀ (c : Thread nD τ) none Set.univ) (Set.mem_univ _) () (O := 0) (W := W) (R := 0) (m := 0) (T := ∅)
      (by rw [Nat.zero_add, expect_rcv m c (peer_ne c hk), hd])) $$ [Hc HO Hat]
  · isplitr; · iexact HI
    isplitl [Hc]; · rw [hd]; iexact Hc
    isplitl [HO]; · iexact HO
    isplitr; · rw [MayWait_zero]; iempintro
    iexact Hat
  iintro ⟨HO, Hat, -, Hpay⟩
  ihave Hp := (Entails.of_eq (rest_rcv m c (peer_ne c hk))) $$ Hpay
  iapply Hk
  isplitr; · iexact HR
  isplitl [HO]; · iexists _; iexact HO
  isplitl [Hrest]; · iexact Hrest
  isplitl [Hat Hp]
  · isplitl [Hat] <;> iassumption
  iexact Hdone

/-! ## Send waits -/

/-- `k` copies have left: their shares of the own slot are back. -/
def DrnSt (c : Dev nD) (k : ℕ) : sProp 𝕄 :=
  iprop(records m K ∗ (∃ W, owes (c : Thread nD τ) 0 W)
    ∗ (bigSep (Finset.Ico k 15) fun h => iprop(cred (tallyAt (sndCell c h) () N) ∗ atPos ER (sndCell c h) 0 ∅ 0))
    ∗ bigSep (Finset.Ico 0 k) fun h => iprop(atPos ER (sndCell c h) 1 ∅ 0 ∗ slotPts c c (shareTokN fullShare h) (gath m)))

theorem drn_step (c : Dev nD) (k : ℕ) (hk : k < 15) {sS : DmaSem sig} (hs : sS = sndS k) {src dst : Memref sig .tc .vmem S48x512 .bf16}
    (hd : dst.view.dmaCredit = N) {hsrc : src.view.WordExact} {hdst : dst.view.WordExact}
    {α : Type} {Q : α → sProp 𝕄} {kk : PUnit → Prog (TpuEff nD τ sig (Elt F) Λ₀ .tc) α} :
    DrnSt m K c k ⊢ iprop((DrnSt m K c (k + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sS src dst hsrc hdst) kk) Q) := by
  subst hs
  unfold DrnSt
  rw [bigSep_Ico_succ_bot hk, bigSep_Ico_succ_top (Nat.zero_le k)]
  iintro ⟨#HR, ⟨%W, HO⟩, ⟨⟨Hc, Hat⟩, Hrest⟩, Hdone⟩ Hk
  ihave HI := (records_snd m K c hk) $$ HR
  icases HI with ⟨#HI, -⟩
  iapply (Rounds.wp_wait_rest_token 𝒱₀ ER (exRd m) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, expect_snd m c hk, hd])) $$ [Hc HO Hat]
  · isplitr; · iexact HI
    isplitl [Hc]; · rw [hd]; iexact Hc
    isplitl [HO]; · iexact HO
    isplitr; · rw [MayWait_zero]; iempintro
    iexact Hat
  iintro ⟨HO, Hat, -, Hpay⟩
  ihave Hp := (Entails.of_eq (rest_snd m c hk)) $$ Hpay
  iapply Hk
  isplitr; · iexact HR
  isplitl [HO]; · iexists _; iexact HO
  isplitl [Hrest]; · iexact Hrest
  isplitl [Hat Hp]
  · isplitl [Hat] <;> iassumption
  iexact Hdone

end Cert.Dispatch

end
-- ==== Proof.Ledger.lean ====
/-
# `Ledger`: how the resources of one phase become those of the next

The gathered buffer as its sixteen slots, a slot as fifteen shares to lend and a remainder to keep, a device's thirty-two
semaphores as the barrier, the sends and the receives, and the passage from the state after one phase to the state before
the next.
-/
module

public import proofs.«01_k».proof.Proof.Steps

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

/-! ## The gathered buffer, slot by slot -/

/-- Device `d`'s whole gathered buffer at share `q`. -/
abbrev wholePts (d : Dev nD) (q : PosShare TreeShare) (f : (cc0_scratch0 : Ref sig .tc).ty.Contents (Elt F)) : sProp 𝕄 :=
  (gM.view.loc (d : Thread nD τ)) ↦{q} f

/-- The whole buffer is its own slot and the fifteen peers' slots. -/
theorem whole_slots (c : Dev nD) (q : PosShare TreeShare) (f : (cc0_scratch0 : Ref sig .tc).ty.Contents (Elt F)) :
    (wholePts c q f : sProp 𝕄) = iprop(slotPts c c q f ∗ bigSep (Finset.Ico 0 15) fun h => slotPts c (peer c h) q f) := by
  rw [← bigSep_own_peers c (fun o => slotPts (F := F) c o q f)]
  have h := Ring.pointsTo_blocks (Ix := Unit) (Name := ℕ) (U := UU) (Lvl := ℕ) (ℓ := gM.view.loc (c : Thread nD τ)) (B := Dev nD) slotSet slot_disjoint slot_cover (q := q) f
  unfold slotPts
  exact h

/-- The fifteen lent shares of a slot. -/
def lent (d o : Dev nD) (f : (cc0_scratch0 : Ref sig .tc).ty.Contents (Elt F)) : sProp 𝕄 :=
  bigSep (Finset.Ico 0 15) fun h => slotPts d o (shareTokN fullShare h) f

theorem slot_lend (d o : Dev nD) (f : (cc0_scratch0 : Ref sig .tc).ty.Contents (Elt F)) :
    slotPts d o fullShare f ⊢ (iprop(slotPts d o (shareDrop fullShare 15) f ∗ lent d o f) : sProp 𝕄) := by
  unfold lent slotPts; rw [← Finset.range_eq_Ico]; exact (Transfers.pointsTo_toks_range fullShare 15).1
theorem slot_return (d o : Dev nD) (f : (cc0_scratch0 : Ref sig .tc).ty.Contents (Elt F)) :
    (iprop(slotPts d o (shareDrop fullShare 15) f ∗ lent d o f) : sProp 𝕄) ⊢ slotPts d o fullShare f := by
  unfold lent slotPts; rw [← Finset.range_eq_Ico]; exact (Transfers.pointsTo_toks_range fullShare 15).2

/-- The peers' slots held in full are the remainders and the lent shares of each. -/
theorem peers_lend (c : Dev nD) (f : (cc0_scratch0 : Ref sig .tc).ty.Contents (Elt F)) :
    (bigSep (Finset.Ico 0 15) fun h => slotPts c (peer c h) fullShare f)
      ⊢ (iprop((bigSep (Finset.Ico 0 15) fun h => slotPts c (peer c h) (shareDrop fullShare 15) f) ∗ bigSep (Finset.Ico 0 15) fun h => lent c (peer c h) f) : sProp 𝕄) :=
  (bigSep_mono fun h _ => slot_lend c (peer c h) f).trans (Entails.of_eq (bigSep_sep' _ _ _))
theorem peers_return (c : Dev nD) (f : (cc0_scratch0 : Ref sig .tc).ty.Contents (Elt F)) :
    (iprop((bigSep (Finset.Ico 0 15) fun h => slotPts c (peer c h) (shareDrop fullShare 15) f) ∗ bigSep (Finset.Ico 0 15) fun h => lent c (peer c h) f) : sProp 𝕄)
      ⊢ bigSep (Finset.Ico 0 15) fun h => slotPts c (peer c h) fullShare f :=
  (Entails.of_eq (bigSep_sep' _ _ _).symm).trans (bigSep_mono fun h _ => slot_return c (peer c h) f)

/-! ## A device's cells -/

theorem cells_univ : (Finset.univ : Finset (Fin 32)) = insert 0 ((Finset.Ico 0 15).image sIx ∪ (Finset.univ : Finset (Dev nD)).image rIx) := by decide
theorem cells_zero : (0 : Fin 32) ∉ ((Finset.Ico 0 15).image sIx ∪ (Finset.univ : Finset (Dev nD)).image rIx) := by decide
theorem cells_disjoint : Disjoint ((Finset.Ico 0 15).image sIx) ((Finset.univ : Finset (Dev nD)).image rIx) := by decide
theorem sIx_inj : Set.InjOn sIx (Finset.Ico 0 15 : Finset ℕ) := by
  intro h hh h' hh' e
  have a := (Finset.mem_Ico.mp (Finset.mem_coe.mp hh)).2
  have b := (Finset.mem_Ico.mp (Finset.mem_coe.mp hh')).2
  have e' : (1 + h) % 32 = (1 + h') % 32 := congrArg Fin.val e
  omega
theorem rIx_inj : Set.InjOn rIx (Finset.univ : Finset (Dev nD)) := by
  intro o _ o' _ e
  have a : o.val < 16 := o.isLt
  have b : o'.val < 16 := o'.isLt
  have e' : (16 + o.val) % 32 = (16 + o'.val) % 32 := congrArg Fin.val e
  exact Fin.ext (by omega)

/-- Something of each of a device's cells: of its barrier, its send cells and its receive cells. -/
theorem own_cells {M : Type} [URA M] (c : Dev nD) (Φ : GSem nD τ sig → sProp M) :
    (bigSep Finset.univ fun k : Fin 32 => Φ (kcell (c, k)))
      = iprop(Φ (barCell c) ∗ (bigSep (Finset.Ico 0 15) fun h => Φ (sndCell c h))
        ∗ Φ (rcvCell c c) ∗ bigSep (Finset.Ico 0 15) fun h => Φ (rcvCell c (peer c h))) := by
  rw [cells_univ, bigSep_insert cells_zero, bigSep_union cells_disjoint,
    bigSep_image_of_injOn sIx_inj (Φ := fun k : Fin 32 => Φ (kcell (c, k))), bigSep_image_of_injOn rIx_inj (Φ := fun k : Fin 32 => Φ (kcell (c, k))),
    ← bigSep_own_peers c (fun o => Φ (rcvCell c o)),
    bigSep_congr (s := Finset.Ico 0 15) (Ψ := fun h => Φ (sndCell c h)) fun h hh => by rw [kcell_snd c (Finset.mem_Ico.mp hh).2],
    bigSep_congr (s := Finset.univ) (Ψ := fun o => Φ (rcvCell c o)) fun o _ => by rw [kcell_rcv c o]]
  rfl

variable (m : (ℓ : Loc nD τ sig) → Buf (Elt F) ℓ)
variable (K : Dev nD × Fin 32 → ℕ)

/-- The round each cell ends at: 1, but 0 for the receive cell of the device's own slab, which nobody pays. -/
def endRound (c : Dev nD) (g : GSem nD τ sig) : ℕ := if g = rcvCell c c then 0 else 1

theorem rcvS_inj {o o' : Dev nD} (h : rcvS o = rcvS o') : o = o' := by
  have := congrArg Fin.val h
  rw [rcvS_val, rcvS_val] at this
  exact Fin.ext (by omega)
theorem bar_ne_rcv (c : Dev nD) : barCell c ≠ rcvCell c c := fun h => by have := congrArg Prod.snd h; exact absurd (show SemLoc.reg barS = SemLoc.dma (rcvS c) from this) (by intro h; cases h)
theorem snd_ne_rcv (c : Dev nD) {h : ℕ} (hh : h < 15) : sndCell c h ≠ rcvCell c c := fun e => by
  have e1 : SemLoc.dma (sndS h) = SemLoc.dma (rcvS c) := congrArg Prod.snd e
  have e2 := congrArg Fin.val (SemLoc.dma.inj e1)
  rw [sndS_val hh, rcvS_val] at e2
  omega
theorem rcv_ne_rcv (c o : Dev nD) (ho : o ≠ c) : rcvCell c o ≠ rcvCell c c := fun e => by
  have e1 : SemLoc.dma (rcvS o) = SemLoc.dma (rcvS c) := congrArg Prod.snd e
  exact ho (rcvS_inj (SemLoc.dma.inj e1))

theorem end_duties (c : Dev nD) (g : GSem nD τ sig) : ∀ r, endRound c g ≤ r → (exRd (F := F) m).duties g r = ∅ := by
  intro r hr
  by_cases h1 : 1 ≤ r
  · exact duties_later m g r h1
  · obtain rfl : r = 0 := by omega
    by_cases hg : g = rcvCell c c
    · subst hg; exact duties_rcv_self m c
    · unfold endRound at hr; rw [if_neg hg] at hr; omega

/-- Every cell of the device has gone through its round: all their counters read zero. -/
theorem close_cells (c : Dev nD) :
    iprop(records m K ∗ atPos ER (barCell c) 1 ∅ 0 ∗ (bigSep (Finset.Ico 0 15) fun h => atPos ER (sndCell c h) 1 ∅ 0)
        ∗ atPos ER (rcvCell c c) 0 ∅ 0 ∗ bigSep (Finset.Ico 0 15) fun h => atPos ER (rcvCell c (peer c h)) 1 ∅ 0)
      ⊢ (|={Set.univ}=> bigSep Finset.univ fun k : Fin 32 => semVal (kcell (c, k)) 0 : sProp 𝕄) := by
  have hpos : iprop(atPos ER (barCell c) 1 ∅ 0 ∗ (bigSep (Finset.Ico 0 15) fun h => atPos ER (sndCell c h) 1 ∅ 0)
        ∗ atPos ER (rcvCell c c) 0 ∅ 0 ∗ bigSep (Finset.Ico 0 15) fun h => atPos ER (rcvCell c (peer c h)) 1 ∅ 0)
      = (bigSep Finset.univ fun k : Fin 32 => atPos ER (kcell (c, k)) (endRound c (kcell (c, k))) ∅ 0 : sProp 𝕄) := by
    rw [own_cells c (fun g => (atPos ER g (endRound c g) ∅ 0 : sProp 𝕄))]
    have e0 : endRound c (barCell c) = 1 := if_neg (bar_ne_rcv c)
    have e1 : endRound c (rcvCell c c) = 0 := if_pos rfl
    rw [e0, e1, bigSep_congr (s := Finset.Ico 0 15) (Φ := fun h => (atPos ER (sndCell c h) (endRound c (sndCell c h)) ∅ 0 : sProp 𝕄))
        (Ψ := fun h => atPos ER (sndCell c h) 1 ∅ 0) fun h hh => by
          rw [show endRound c (sndCell c h) = 1 from if_neg (snd_ne_rcv c (Finset.mem_Ico.mp hh).2)],
      bigSep_congr (s := Finset.Ico 0 15) (Φ := fun h => (atPos ER (rcvCell c (peer c h)) (endRound c (rcvCell c (peer c h))) ∅ 0 : sProp 𝕄))
        (Ψ := fun h => atPos ER (rcvCell c (peer c h)) 1 ∅ 0) fun h hh => by
          rw [show endRound c (rcvCell c (peer c h)) = 1 from if_neg (rcv_ne_rcv c _ (peer_ne c (Finset.mem_Ico.mp hh).2))]]
  rw [hpos]
  iintro ⟨#HR, Hat⟩
  iapply (Rounds.cells_close ER (exRd (F := F) m) Finset.univ (fun k : Fin 32 => kcell (c, k)) (fun k => K (c, k)) (Es := Set.univ)
    (fun _ _ => Set.mem_univ _) (fun _ _ h => h) (fun k => endRound c (kcell (c, k))) (fun k _ => end_duties m c _))
  rw [bigSep_sep']
  isplitr
  · have hrec : records m K ⊢ (bigSep Finset.univ fun k : Fin 32 => cellInv ER (exRd m) (K (c, k)) (kcell (c, k)) : sProp 𝕄) := by
      exact bigSep_intro_persistent fun k _ => (records_at m K (c, k)).trans sep_elim_left
    iapply hrec; iexact HR
  iexact Hat

/-! ## From phase to phase -/

/-- What a device's body starts from of the exchange: the records, its positions at round 0 of its own cells, and the
    tokens of the duties it pays — one at each peer's barrier, one at each own send, one at each peer's receive. -/
def ghost (c : Dev nD) : sProp 𝕄 :=
  iprop(records m K
    ∗ (atPos ER (barCell c) 0 ∅ 0 ∗ (bigSep (Finset.Ico 0 15) fun h => atPos ER (sndCell c h) 0 ∅ 0)
        ∗ atPos ER (rcvCell c c) 0 ∅ 0 ∗ bigSep (Finset.Ico 0 15) fun h => atPos ER (rcvCell c (peer c h)) 0 ∅ 0)
    ∗ (bigSep (Finset.Ico 0 15) fun h => dutyTok ER (barCell (peer c h)) 0 c)
    ∗ (bigSep (Finset.Ico 0 15) fun h => dutyTok ER (sndCell c h) 0 c)
    ∗ (bigSep (Finset.Ico 0 15) fun h => dutyTok ER (rcvCell (peer c h) c) 0 c))

/-- Before the signals. -/
theorem sig_start (c : Dev nD) (f : (cc0_scratch0 : Ref sig .tc).ty.Contents (Elt F)) :
    iprop(records m K ∗ (∃ W, owes (c : Thread nD τ) (O₀ c) W) ∗ (bigSep (Finset.Ico 0 15) fun h => dutyTok ER (barCell (peer c h)) 0 c) ∗ wholePts c fullShare f)
      ⊢ (iprop(SigSt m K c 0 ∗ slotPts c c fullShare f) : sProp 𝕄) := by
  rw [whole_slots]
  unfold SigSt sigRes
  rw [bigSep_sep', show (O₀ c) = oRcv c 0 + oBar c 0 from rfl]
  iintro ⟨HR, HO, Ht, Hown, Hp⟩
  isplitr [Hown]
  · isplitl [HR]; · iexact HR
    isplitl [HO]; · iexact HO
    isplitl [Ht]; · iexact Ht
    have hx : (bigSep (Finset.Ico 0 15) fun h => slotPts c (peer c h) fullShare f)
        ⊢ (bigSep (Finset.Ico 0 15) fun h => iprop(∃ f, slotPts c (peer c h) fullShare f) : sProp 𝕄) :=
      bigSep_mono fun h _ => (show slotPts c (peer c h) fullShare f ⊢ (iprop(∃ f, slotPts c (peer c h) fullShare f) : sProp 𝕄) from by iintro H; iexists f; iexact H)
    iapply hx; iexact Hp
  iexact Hown

/-- Before the copies: the own slot holds the slab. -/
theorem snd_start (c : Dev nD) :
    iprop(records m K ∗ (∃ W, owes (c : Thread nD τ) (oRcv c 0) W) ∗ (bigSep (Finset.Ico 0 15) fun h => dutyTok ER (sndCell c h) 0 c)
        ∗ (bigSep (Finset.Ico 0 15) fun h => dutyTok ER (rcvCell (peer c h) c) 0 c)
        ∗ (bigSep (Finset.Ico 0 15) fun h => iprop(∃ f, slotPts (peer c h) c fullShare f)) ∗ slotPts c c fullShare (gath m))
      ⊢ (iprop(SndSt m K c 0 ∗ slotPts c c (shareDrop fullShare 15) (gath m)) : sProp 𝕄) := by
  unfold SndSt sndRes
  rw [bigSep_sep', bigSep_sep', bigSep_sep', Finset.Ico_self, bigSep_empty]
  iintro ⟨HR, HO, H1, H2, H3, Hown⟩
  ihave Hown := (slot_lend c c (gath m)) $$ Hown
  icases Hown with ⟨Hd, Hl⟩
  isplitr [Hd]
  · isplitl [HR]; · iexact HR
    isplitl [HO]; · iexact HO
    isplitl [H1 H2 H3 Hl]
    · isplitl [H1]; · iexact H1
      isplitl [H2]; · iexact H2
      isplitl [H3]; · iexact H3
      unfold lent; iexact Hl
    iempintro
  iexact Hd

/-- From the copies to the receive waits; the credits of the copies' own arrivals are kept. -/
theorem rcv_start (c : Dev nD) :
    iprop(SndSt m K c 15 ∗ (bigSep (Finset.Ico 0 15) fun h => cred (tallyAt (rcvCell c (peer c h)) () N))
        ∗ bigSep (Finset.Ico 0 15) fun h => atPos ER (rcvCell c (peer c h)) 0 ∅ 0)
      ⊢ (iprop(RcvSt m K c 0 ∗ bigSep (Finset.Ico 0 15) fun h => cred (tallyAt (sndCell c h) () N)) : sProp 𝕄) := by
  unfold SndSt RcvSt
  rw [bigSep_sep', Finset.Ico_self 0, bigSep_empty, oRcv_last]
  iintro ⟨⟨HR, HO, -, Hc⟩, H1, H2⟩
  isplitr [Hc]
  · isplitl [HR]; · iexact HR
    isplitl [HO]; · iexact HO
    isplitl [H1 H2]; · isplitl [H1] <;> iassumption
    iempintro
  iexact Hc

/-- After the receive waits: the whole gathered buffer, at the share that is left of the own slot, and the other shares of
    the peers' slots. -/
theorem rcv_end (c : Dev nD) :
    iprop(RcvSt m K c 15 ∗ slotPts c c (shareDrop fullShare 15) (gath m))
      ⊢ (iprop(records m K ∗ (∃ W, owes (c : Thread nD τ) 0 W) ∗ (bigSep (Finset.Ico 0 15) fun h => atPos ER (rcvCell c (peer c h)) 1 ∅ 0)
        ∗ wholePts c (shareDrop fullShare 15) (gath m) ∗ bigSep (Finset.Ico 0 15) fun h => lent c (peer c h) (gath m)) : sProp 𝕄) := by
  unfold RcvSt
  rw [bigSep_sep', bigSep_sep', whole_slots]
  iintro ⟨⟨HR, HO, -, Hat, Hp⟩, Hown⟩
  ihave Hp := (peers_lend c (gath m)) $$ Hp
  icases Hp with ⟨Hd, Hl⟩
  isplitl [HR]; · iexact HR
  isplitl [HO]; · iexact HO
  isplitl [Hat]; · iexact Hat
  isplitl [Hown Hd]; · isplitl [Hown] <;> iassumption
  iexact Hl

/-- Before the send waits. -/
theorem drn_start (c : Dev nD) :
    iprop(records m K ∗ (∃ W, owes (c : Thread nD τ) 0 W) ∗ (bigSep (Finset.Ico 0 15) fun h => cred (tallyAt (sndCell c h) () N))
        ∗ bigSep (Finset.Ico 0 15) fun h => atPos ER (sndCell c h) 0 ∅ 0)
      ⊢ (DrnSt m K c 0 : sProp 𝕄) := by
  unfold DrnSt
  rw [bigSep_sep', Finset.Ico_self 0, bigSep_empty]
  iintro ⟨HR, HO, H1, H2⟩
  isplitl [HR]; · iexact HR
  isplitl [HO]; · iexact HO
  isplitl [H1 H2]; · isplitl [H1] <;> iassumption
  iempintro

/-- After the send waits: the gathered buffer in full. -/
theorem drn_end (c : Dev nD) :
    iprop(DrnSt m K c 15 ∗ wholePts c (shareDrop fullShare 15) (gath m) ∗ bigSep (Finset.Ico 0 15) fun h => lent c (peer c h) (gath m))
      ⊢ (iprop(records m K ∗ (∃ W, owes (c : Thread nD τ) 0 W) ∗ (bigSep (Finset.Ico 0 15) fun h => atPos ER (sndCell c h) 1 ∅ 0)
        ∗ wholePts c fullShare (gath m)) : sProp 𝕄) := by
  unfold DrnSt
  rw [bigSep_sep', bigSep_sep', whole_slots, whole_slots]
  iintro ⟨⟨HR, HO, -, Hat, Hl⟩, ⟨Hown, Hd⟩, Hp⟩
  isplitl [HR]; · iexact HR
  isplitl [HO]; · iexact HO
  isplitl [Hat]; · iexact Hat
  isplitl [Hown Hl]
  · iapply (slot_return c c (gath m)); isplitl [Hown]; · iexact Hown
    unfold lent; iexact Hl
  iapply (peers_return c (gath m)); isplitl [Hd] <;> iassumption

end Cert.Dispatch

end
-- ==== Proof.Fund.lean ====
/-
# `Fund`: what the launch deals each device

The launch mints every duty token with the device that pays the duty, allocates the invariant of every one of the
512 cells (thirty-two to a device), and gives each device its positions, its tokens and the credit its waits need. This
module has those steps; none of them depends on the kernel's body.
-/
module

public import proofs.«01_k».proof.Proof.Ledger

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem csem_injective : Function.Injective csem := by decide

theorem kcell_injective : Function.Injective (kcell : Dev nD × Fin 32 → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- All cells of the exchange. -/
def exCells : Finset (GSem nD τ sig) := Finset.univ.map ⟨kcell, kcell_injective⟩

/-- The duties device `c` pays: one at each peer's barrier, one at each own send, one at each peer's receive. -/
def paid (c : Dev nD) : Finset (GSem nD τ sig × ℕ × Dev nD) :=
  ((Finset.Ico 0 15).image fun h => (barCell (peer c h), 0, c))
    ∪ (((Finset.Ico 0 15).image fun h => (sndCell c h, 0, c)) ∪ (Finset.Ico 0 15).image fun h => (rcvCell (peer c h) c, 0, c))

/-- The payer is part of a duty's name. -/
theorem payer_of_paid {c : Dev nD} {x : GSem nD τ sig × ℕ × Dev nD} (h : x ∈ paid c) : x.2.2 = c := by
  unfold paid at h
  rw [Finset.mem_union, Finset.mem_union, Finset.mem_image, Finset.mem_image, Finset.mem_image] at h
  rcases h with ⟨_, -, rfl⟩ | ⟨_, -, rfl⟩ | ⟨_, -, rfl⟩ <;> rfl

theorem paid_disjoint (c : Dev nD) (_ : c ∈ (Finset.univ : Finset (Dev nD))) (c' : Dev nD) (_ : c' ∈ (Finset.univ : Finset (Dev nD))) (h : c ≠ c') :
    Disjoint (paid c) (paid c') := by
  rw [Finset.disjoint_left]
  intro x hx hx'
  exact h ((payer_of_paid hx).symm.trans (payer_of_paid hx'))

def exToks : Finset (GSem nD τ sig × ℕ × Dev nD) := Finset.univ.biUnion paid

theorem sem_of_eq {a b : GSem nD τ sig × ℕ × Dev nD} (h : a = b) : a.1.2 = b.1.2 := by rw [h]
theorem dev_of_eq {a b : GSem nD τ sig × ℕ × Dev nD} (h : a = b) : a.1.1.1 = b.1.1.1 := by rw [h]

theorem snd_ne_rcvS {h : ℕ} (hh : h < 15) (o : Dev nD) : sndS h ≠ rcvS o := fun e => by
  have := congrArg Fin.val e; rw [sndS_val hh, rcvS_val] at this; omega

/-- Something of each duty a device pays: at the peers' barriers, at its sends, at the peers' receives. -/
theorem paid_split {M : Type} [URA M] (c : Dev nD) (Φ : GSem nD τ sig × ℕ × Dev nD → sProp M) :
    bigSep (paid c) Φ = iprop((bigSep (Finset.Ico 0 15) fun h => Φ (barCell (peer c h), 0, c))
      ∗ (bigSep (Finset.Ico 0 15) fun h => Φ (sndCell c h, 0, c)) ∗ bigSep (Finset.Ico 0 15) fun h => Φ (rcvCell (peer c h) c, 0, c)) := by
  have hlt : ∀ {h : ℕ}, h ∈ ((Finset.Ico 0 15 : Finset ℕ) : Set ℕ) → h < 15 := fun hh => (Finset.mem_Ico.mp (Finset.mem_coe.mp hh)).2
  unfold paid
  rw [bigSep_union, bigSep_union,
    bigSep_image_of_injOn (Φ := Φ) fun h hh h' hh' e => peer_inj c (hlt hh) (hlt hh') (dev_of_eq e),
    bigSep_image_of_injOn (Φ := Φ) fun h hh h' hh' e => ?_,
    bigSep_image_of_injOn (Φ := Φ) fun h hh h' hh' e => peer_inj c (hlt hh) (hlt hh') (dev_of_eq e)]
  · rfl
  · have e1 : sndS h = sndS h' := SemLoc.dma.inj (sem_of_eq e)
    have := congrArg Fin.val e1; rw [sndS_val (hlt hh), sndS_val (hlt hh')] at this; omega
  · rw [Finset.disjoint_left]
    intro x hx hx'
    obtain ⟨h, hh, rfl⟩ := Finset.mem_image.mp hx
    obtain ⟨h', -, e⟩ := Finset.mem_image.mp hx'
    exact snd_ne_rcvS (Finset.mem_Ico.mp hh).2 c (SemLoc.dma.inj (sem_of_eq e)).symm
  · rw [Finset.disjoint_left]
    intro x hx hx'
    obtain ⟨h, hh, rfl⟩ := Finset.mem_image.mp hx
    rcases Finset.mem_union.mp hx' with hx' | hx' <;> obtain ⟨h', -, e⟩ := Finset.mem_image.mp hx'
    · have := sem_of_eq e; cases this
    · have := sem_of_eq e; cases this

variable (m : (ℓ : Loc nD τ sig) → Buf (Elt F) ℓ)

/-- The element of the launch: the pipeline library's part and the exchange's. -/
def u₀ : UU := (initOf (Pipeline.cells cfgs cellOf_inj) (Pipeline.launchToks cfgs cellOf_inj), initOf exCells exToks)

/-- The tokens of the duties device `c` pays. -/
def toks (c : Dev nD) : sProp 𝕄 := bigSep (paid c) fun x => dutyTok ER x.1 x.2.1 x.2.2

/-- What the launch's element deals device `c`: its cells' states, its positions, its tokens. -/
def dealt (c : Dev nD) : sProp 𝕄 :=
  iprop((bigSep Finset.univ fun k : Fin 32 => roundState ER (exRd m) (kcell (c, k)) 0)
    ∗ (bigSep Finset.univ fun k : Fin 32 => iprop(atPos ER (kcell (c, k)) 0 ∅ 0 ∗ reached ER (kcell (c, k)) 0)) ∗ toks c)

/-- What it holds once the invariants are allocated. -/
def ready (c : Dev nD) : sProp 𝕄 := iprop(∃ K, ghost m K c)

theorem fund_exchange : BI.own (ER (initOf exCells exToks)) ⊢ (|==> bigSep Finset.univ (dealt m) : sProp 𝕄) := by
  have hX (Φ : GSem nD τ sig → sProp 𝕄) : bigSep exCells Φ = bigSep Finset.univ fun c : Dev nD => bigSep Finset.univ fun k : Fin 32 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; exact bigSep_biUnion_eq _ _ _ paid_disjoint
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores -/

/-- The kernel's own semaphores: fifteen for the sends, sixteen for the receives. -/
def osem (k : Fin 31) : SemLoc sig := csem k.succ

theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's thirty-two counters are the kernel's own and the barrier's. -/
theorem sems0_eq (c : Dev nD) :
    (bigSep Finset.univ fun k : Fin 32 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, Fin.univ_succ, Finset.cons_eq_insert, bigSep_insert (by simp), bigSep_map]
  rfl

/-- A device's cells, each counter at zero and each round's state put under its invariant. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (Entails.of_eq (sems0_eq (F := F) c).symm) $$ [Hos Hus]
  · isplitl [Hus] <;> iassumption
  imod (show iprop((bigSep Finset.univ fun k : Fin 32 => semVal (kcell (c, k)) 0) ∗ bigSep Finset.univ fun k : Fin 32 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records, a device's positions and its tokens are what its body starts from. -/
theorem ready_intro (K : Dev nD × Fin 32 → ℕ) (c : Dev nD) :
    iprop(records m K ∗ (bigSep Finset.univ fun k : Fin 32 => atPos ER (kcell (c, k)) 0 ∅ 0) ∗ toks c) ⊢ ready m c := by
  unfold toks ready ghost
  rw [paid_split, own_cells c (fun g => (atPos ER g 0 ∅ 0 : sProp 𝕄))]
  iintro H; iexists K; iexact H

/-- Something persistent goes to every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem all_ready :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) : sProp 𝕄)
      ⊢ bigSep Finset.univ (ready m) := by
  rw [bigSep_sep', bigSep_sep', ← bigSep_univ_prod (fun ck : Dev nD × Fin 32 => iprop(∃ κ : ℕ, cellInv ER (exRd m) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok⟩
  ihave HK := (BI.bigSep_exists_pi Finset.univ (fun (ck : Dev nD × Fin 32) (κ : ℕ) => (cellInv ER (exRd m) κ (kcell ck) : sProp 𝕄))) $$ HI
  icases HK with ⟨%K, #HI⟩
  iapply (bigSep_beside (R := records m K) fun c _ => ready_intro m K c)
  isplitr
  · unfold records; isplitl; · iexact HI
    iexact HR
  · rw [bigSep_sep']
    isplitl [Hat]; · iexact Hat
    iexact Htok

/-- The global step of the launch: every device's cells at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (all_ready m))

/-! ## The credit -/

theorem bar_inj {a b : Dev nD} (h : barCell a = barCell b) : a = b := congrArg (fun g : GSem nD τ sig => g.1.1) h

/-- A sum of tallies over a device's hops, at a cell exactly one hop leads to, or none. -/
theorem sum_tally_at {g : GSem nD τ sig} {cell : ℕ → GSem nD τ sig} {n h : ℕ} (hh : h < 15) (hg : g = cell h)
    (hu : ∀ h', h' < 15 → g = cell h' → h' = h) : (∑ k ∈ Finset.Ico 0 15, tallyAt (cell k) () n : CellTallies nD τ sig Unit) g () = n := by
  rw [Finset.sum_apply, Finsupp.finset_sum_apply, Finset.sum_eq_single h]
  · rw [tallyAt_apply, if_pos ⟨hg, rfl⟩]
  · intro b hb hne
    rw [tallyAt_apply, if_neg fun e => hne (hu b (Finset.mem_Ico.mp hb).2 e.1)]
  · intro hn; exact absurd (Finset.mem_Ico.mpr ⟨Nat.zero_le _, hh⟩) hn

theorem sum_tally_zero {g : GSem nD τ sig} {cell : ℕ → GSem nD τ sig} {n : ℕ} (hn : ∀ h, h < 15 → g ≠ cell h) :
    (∑ k ∈ Finset.Ico 0 15, tallyAt (cell k) () n : CellTallies nD τ sig Unit) g () = 0 := by
  rw [Finset.sum_apply, Finsupp.finset_sum_apply]
  exact Finset.sum_eq_zero fun k hk => by rw [tallyAt_apply, if_neg fun e => hn k (Finset.mem_Ico.mp hk).2 e.1]

theorem bar_ne_rcv' (c d o : Dev nD) : barCell c ≠ rcvCell d o := fun h => by
  have : SemLoc.reg barS = SemLoc.dma (rcvS o) := congrArg Prod.snd h
  cases this

/-- Every other device owes a device's barrier one unit. -/
theorem owed_bar (d c : Dev nD) : O₀ d (barCell c) () = if d = c then 0 else 1 := by
  unfold O₀ oRcv oBar
  rw [Pi.add_apply, Finsupp.add_apply, sum_tally_zero fun h _ => bar_ne_rcv' _ _ _, Nat.zero_add]
  by_cases h : d = c
  · subst h
    rw [if_pos rfl]
    exact sum_tally_zero fun h hh e => peer_ne d hh (bar_inj e).symm
  · rw [if_neg h]
    obtain ⟨k, hk, rfl⟩ := exists_peer d c (Ne.symm h)
    exact sum_tally_at hk rfl fun h' hh' e => peer_inj d hh' hk (bar_inj e).symm

/-- The origin alone owes a receive cell, the bytes of one slot. -/
theorem owed_rcv (d c o : Dev nD) (ho : o ≠ c) : O₀ d (rcvCell c o) () = if d = o then N else 0 := by
  unfold O₀ oRcv oBar
  rw [Pi.add_apply, Finsupp.add_apply, sum_tally_zero (cell := fun h => barCell (peer d h)) fun h _ e => bar_ne_rcv' _ _ _ e.symm, Nat.add_zero]
  have hdev : ∀ {a b p q : Dev nD}, rcvCell a p = rcvCell b q → a = b := fun e => congrArg (fun g : GSem nD τ sig => g.1.1) e
  by_cases h : d = o
  · subst h
    rw [if_pos rfl]
    obtain ⟨k, hk, rfl⟩ := exists_peer d c (Ne.symm ho)
    exact sum_tally_at hk rfl fun h' hh' e => peer_inj d hh' hk (hdev e).symm
  · rw [if_neg h]
    exact sum_tally_zero fun k _ e => h (rcvS_inj (SemLoc.dma.inj (congrArg Prod.snd e))).symm

theorem sum_others : ∀ c : Dev nD, (∑ d : Dev nD, if d = c then 0 else 1) = 15 := by decide

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_rcv (c o : Dev nD) (ho : o ≠ c) :
    tallyOn (rcvCell c o) (launchCredit (Pipeline.owing O₀) 0 (rcvCell c o)) = (tallyAt (rcvCell c o) () N : CellTallies nD τ sig Unit) := by
  unfold tallyAt; refine congrArg _ (Finsupp.ext fun u => ?_); cases u
  rw [Pipeline.launchCredit_owing, Finsupp.single_eq_same, Finset.sum_congr rfl fun d _ => owed_rcv d c o ho,
    Finset.sum_ite_eq' Finset.univ o fun _ => N, if_pos (Finset.mem_univ _)]

/-- The credit a device's waits need: fifteen units at its barrier, a slot's bytes at each peer's receive cell. -/
def credits (c : Dev nD) : sProp 𝕄 :=
  iprop(cred (tallyAt (barCell c) () 15) ∗ bigSep (Finset.Ico 0 15) fun h => cred (tallyAt (rcvCell c (peer c h)) () N))

/-- The launch credit at a semaphore of device `c`. -/
def semCredit (c : Dev nD) (s : SemLoc sig) : sProp 𝕄 := cred (tallyOn ((c : Thread nD τ), s) (launchCredit (Pipeline.owing O₀) 0 ((c : Thread nD τ), s)))

theorem semCredit_rcv (c : Dev nD) {h : ℕ} (hh : h < 15) :
    (semCredit c (.dma (rcvS (peer c h))) : sProp 𝕄) = cred (tallyAt (rcvCell c (peer c h)) () N) := by
  unfold semCredit; rw [launch_rcv c (peer c h) (peer_ne c hh)]

/-- Of a family, the members fifteen different hops lead to may be kept and the rest dropped. -/
theorem keep_hops {M : Type} [URA M] {I : Type} [DecidableEq I] (s : Finset I) (Φ : I → sProp M) (f : ℕ → I)
    (hf : ∀ h, h < 15 → f h ∈ s) (hinj : ∀ h h', h < 15 → h' < 15 → f h = f h' → h = h') :
    bigSep s Φ ⊢ bigSep (Finset.Ico 0 15) fun h => Φ (f h) := by
  have hlt : ∀ {h : ℕ}, h ∈ ((Finset.Ico 0 15 : Finset ℕ) : Set ℕ) → h < 15 := fun hh => (Finset.mem_Ico.mp (Finset.mem_coe.mp hh)).2
  rw [← bigSep_image_of_injOn (s := Finset.Ico 0 15) (f := f) (fun h hh h' hh' e => hinj h h' (hlt hh) (hlt hh') e) Φ]
  refine bigSep_subset fun i hi => ?_
  obtain ⟨h, hh, rfl⟩ := Finset.mem_image.mp hi
  exact hf h (Finset.mem_Ico.mp hh).2

theorem rcv_mem (c : Dev nD) (h : ℕ) : (SemLoc.dma (rcvS (peer c h)) : SemLoc sig) ∈ Finset.univ.erase (SemLoc.reg barS : SemLoc sig) :=
  Finset.mem_erase.mpr ⟨fun e => (by cases e), Finset.mem_univ _⟩

theorem credits_rcv (c : Dev nD) : bigSep (Finset.univ.erase (SemLoc.reg barS : SemLoc sig)) (semCredit (F := F) c)
    ⊢ bigSep (Finset.Ico 0 15) fun h => (cred (tallyAt (rcvCell c (peer c h)) () N) : sProp 𝕄) := by
  have h1 := keep_hops (Finset.univ.erase (SemLoc.reg barS : SemLoc sig)) (semCredit (F := F) c) (fun h => .dma (rcvS (peer c h)))
    (fun h _ => rcv_mem c h) (fun h h' hh hh' e => peer_inj c hh hh' (rcvS_inj (SemLoc.dma.inj e)))
  have h3 : (bigSep (Finset.Ico 0 15) fun h => semCredit (F := F) c (.dma (rcvS (peer c h))))
      = bigSep (Finset.Ico 0 15) fun h => (cred (tallyAt (rcvCell c (peer c h)) () N) : sProp 𝕄) :=
    bigSep_congr fun h hh => semCredit_rcv c (Finset.mem_Ico.mp hh).2
  rw [← h3]
  exact h1

theorem credits_intro (c : Dev nD) : (Pipeline.launchCred O₀ c : sProp 𝕄) ⊢ credits c := by
  unfold Pipeline.launchCred credits
  rw [bigSep_univ_at _ (SemLoc.reg barS), launch_bar]
  exact sep_mono_right (credits_rcv c)

end Cert.Dispatch

end
-- ==== Proof.Body.lean ====
/-
# `Body`: the kernel's body on one device, run once

The body on device `c`, symbolic, from what the launch gives it to its result and its semaphores at zero.
-/
module

public import proofs.«01_k».proof.Proof.Ledger

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)
variable (K : Dev nD × Fin 32 → ℕ)

/-! ## The semaphores the copies name -/

theorem own_sem : ∀ c : Dev nD, ((cc0_scratch2.slice (Rect.unit (s := S16) (k0_off2 c) S1.size (k0_off2_inb c))).squeeze S_ squeezes_S1_S_).sem = rcvS c := by decide +kernel
theorem peer_sem : ∀ (c : Dev nD) (r : Fin 15),
    ((cc0_scratch2.slice (Rect.unit (s := S16) (k0_off5 c (BitVec.ofNat 32 (1 + r.val))) S1.size (k0_off5_inb c r))).squeeze S_ squeezes_S1_S_).sem = rcvS (peer c r.val) := by decide +kernel

/-! ## Whole reads and writes -/

theorem hz : (![0, 0] : Fin 2 → Nat) = fun _ => 0 := funext fun a => by fin_cases a <;> rfl

theorem read_x (f : (cc0_stg0_0 : Ref sig .tc).ty.Contents (Elt F)) :
    (Memref.whole cc0_stg0_0 : Memref sig .tc .vmem S1024x256 .f32).view.readAt (Elt F) (Rect.unit (s := S1024x256) ![0, 0] S1024x256.size inb_S1024x256_S1024x256_0_0).toLoadRect f = f :=
  Memref.readAt_unit_zero (Elt F) cc0_stg0_0 hz _ f
theorem read_idx (f : (cc0_stg1_0 : Ref sig .tc).ty.Contents (Elt F)) :
    (Memref.whole cc0_stg1_0 : Memref sig .tc .vmem S1024x1 .i32).view.readAt (Elt F) (Rect.unit (s := S1024x1) ![0, 0] S1024x1.size inb_S1024x1_S1024x1_0_0).toLoadRect f = f :=
  Memref.readAt_unit_zero (Elt F) cc0_stg1_0 hz _ f
theorem read_g (f : (cc0_scratch0 : Ref sig .tc).ty.Contents (Elt F)) :
    gM.view.readAt (Elt F) (Rect.unit (s := S768x512) ![0, 0] S768x512.size inb_S768x512_S768x512_0_0).toLoadRect f = f :=
  Memref.readAt_unit_zero (Elt F) cc0_scratch0 hz _ f
theorem write_out (f w : (cc0_stg3_0 : Ref sig .tc).ty.Contents (Elt F)) :
    ((Memref.whole cc0_stg3_0 : Memref sig .tc .vmem S64x512 .f32).access (Rect.unit (s := S64x512) ![0, 0] S64x512.size inb_S64x512_S64x512_0_0) : View sig .tc _ _ _).write (Elt F) f w Finset.univ = w :=
  Memref.write_access_unit_zero_univ (Elt F) cc0_stg3_0 hz _ f w

/-! ## The own slot, read and written where the slab goes -/

theorem own_sub (c : Dev nD) {off : Fin 2 → ℕ} {h : ∀ a, off a + S48x512.size a ≤ S768x512.size a} (ho : off = k0_off3 c) :
    gM.view.setOn (Rect.unit (s := S768x512) off S48x512.size h).toLoadRect.set ⊆ (slotM c).view.set := by
  subst ho
  exact (Finset.Subset.refl _).trans (Finset.Subset.antisymm_iff.mp (View.set_slice gM.view (Rect.unit (s := S768x512) (k0_off3 c) S48x512.size h))).2

theorem own_load (c : Dev nD) {off : Fin 2 → ℕ} {h : ∀ a, off a + S48x512.size a ≤ S768x512.size a} (ho : off = k0_off3 c)
    {hl : gM.view.LoadsAt (Rect.unit (s := S768x512) off S48x512.size h).toLoadRect} (f : (cc0_scratch0 : Ref sig .tc).ty.Contents (Elt F))
    {α : Type} {Q : α → sProp 𝕄} {kk : Vec F S48x512 .bf16 → Prog (TpuEff nD τ sig (Elt F) Λ₀ .tc) α} :
    slotPts c c fullShare f ⊢ iprop((∀ v, slotPts c c fullShare f -∗ wp frame (wpE (defs₀ (F := F)) 𝒱₀ (c : Thread nD τ) none) Set.univ (kk v) Q)
      -∗ wp frame (wpE (defs₀ (F := F)) 𝒱₀ (c : Thread nD τ) none) Set.univ (.op (.load gM (Rect.unit (s := S768x512) off S48x512.size h).toLoadRect hl) kk) Q) := by
  unfold slotPts
  iintro H Hk
  iapply (wp_load 𝒱₀ (c : Thread nD τ) none Set.univ (m := gM) (own_sub c ho)) $$ H
  iintro H
  iapply Hk; iexact H

theorem own_store (c : Dev nD) {off : Fin 2 → ℕ} {h : ∀ a, off a + S48x512.size a ≤ S768x512.size a} (ho : off = k0_off3 c)
    {w : Vec F S48x512 .bf16} (hw : w = slab m c)
    {hx : (gM.access (Rect.unit (s := S768x512) off S48x512.size h)).Stores Finset.univ}
    {hm : Finset.univ = (Finset.univ : Finset (Rect.unit (s := S768x512) off S48x512.size h).shape.Idx) ∨ ∀ a, (Rect.unit (s := S768x512) off S48x512.size h).stride a = 1}
    (f : (cc0_scratch0 : Ref sig .tc).ty.Contents (Elt F))
    {α : Type} {Q : α → sProp 𝕄} {kk : PUnit → Prog (TpuEff nD τ sig (Elt F) Λ₀ .tc) α} :
    slotPts c c fullShare f ⊢ iprop((slotPts c c fullShare (gath m) -∗ wp frame (wpE (defs₀ (F := F)) 𝒱₀ (c : Thread nD τ) none) Set.univ (kk ⟨⟩) Q)
      -∗ wp frame (wpE (defs₀ (F := F)) 𝒱₀ (c : Thread nD τ) none) Set.univ (.op (.store gM (Rect.unit (s := S768x512) off S48x512.size h) w Finset.univ hx hm) kk) Q) := by
  subst ho; subst hw
  have hg : ((slotM c).view.loc (c : Thread nD τ) ↦[(slotM c).view.set]{fullShare} ((slotM c).view.write (Elt F) f (slab m c) Finset.univ) : sProp 𝕄)
      = slotPts c c fullShare (gath m) := by
    unfold slotPts
    exact pointsTo_congr fun i hi => write_layout (slab m) c f i hi
  rw [← hg]
  unfold slotPts
  exact wp_store 𝒱₀ (c : Thread nD τ) none Set.univ (m := gM) (r := Rect.unit (s := S768x512) (k0_off3 c) S48x512.size h) (Mk := Finset.univ)
    (S := (slotM c).view.set) (f := f) (Finset.Subset.refl _)

/-! ## The body -/

abbrev pts (c : Dev nD) (b : Ref sig .tc) (f : b.ty.Contents (Elt F)) : sProp 𝕄 := ((c : Thread nD τ).loc b) ↦{fullShare} f

/-- What the body starts from. -/
def bodyPre (c : Dev nD) : sProp 𝕄 :=
  iprop(ghost m K c ∗ (cred (tallyAt (barCell c) () 15) ∗ bigSep (Finset.Ico 0 15) fun h => cred (tallyAt (rcvCell c (peer c h)) () N))
    ∗ levAts L lv ∗ (∃ f, wholePts c fullShare f) ∗ (∃ W, owes (c : Thread nD τ) (O₀ c) W)
    ∗ pts c cc0_stg0_0 (xIn m c) ∗ pts c cc0_stg1_0 (idxIn m c) ∗ pts c cc0_stg2_0 (wIn m c) ∗ ∃ f, pts c cc0_stg3_0 f)

/-- What it ends with: every semaphore at zero, nothing owed, the inputs as they were and the result. -/
def bodyPost (c : Dev nD) : sProp 𝕄 :=
  iprop(((∃ f, wholePts c fullShare f) ∗ bigSep Finset.univ fun k : Fin 32 => semVal (kcell (c, k)) 0)
    ∗ (∃ W, owes (c : Thread nD τ) 0 W)
    ∗ pts c cc0_stg0_0 (xIn m c) ∗ pts c cc0_stg1_0 (idxIn m c) ∗ pts c cc0_stg2_0 (wIn m c) ∗ pts c cc0_stg3_0 (outAt m c))

set_option maxRecDepth 65536 in
set_option maxHeartbeats 8000000 in
/-- The body, run from `bodyPre` to `bodyPost`, one rule per operation in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel k0_part21_skel
  simp only [semSignalWord, semWaitWord, Prog.lift, Prog.bind_op, Prog.bind_ret, Prog.pure_eq_ret, wp_deviceId]
  unfold bodyPre ghost
  iintro ⟨⟨⟨#HR, ⟨HaB, HaS, HaO, HaR⟩, HtB, HtS, HtR⟩, ⟨HcB, HcR⟩, #Hlev, ⟨%f0, Hscr⟩, HO, Hx, Hidx, Hw, ⟨%f3, Hout⟩⟩, Hk⟩
  -- the signals
  ihave HS := (sig_start m K c f0) $$ [HO HtB Hscr]
  · isplitr; · iexact HR
    isplitl [HO]; · iexact HO
    isplitl [HtB] <;> iassumption
  icases HS with ⟨HS, Hown⟩
  iapply (sig_step m K c 0 (by decide) (k0_dev1_eq c) (by decide)) $$ HS; iintro HS
  iapply (sig_step m K c 1 (by decide) (k0_dev2_eq c) (by decide)) $$ HS; iintro HS
  iapply (sig_step m K c 2 (by decide) (k0_dev3_eq c) (by decide)) $$ HS; iintro HS
  iapply (sig_step m K c 3 (by decide) (k0_dev4_eq c) (by decide)) $$ HS; iintro HS
  iapply (sig_step m K c 4 (by decide) (k0_dev5_eq c) (by decide)) $$ HS; iintro HS
  iapply (sig_step m K c 5 (by decide) (k0_dev6_eq c) (by decide)) $$ HS; iintro HS
  iapply (sig_step m K c 6 (by decide) (k0_dev7_eq c) (by decide)) $$ HS; iintro HS
  iapply (sig_step m K c 7 (by decide) (k0_dev8_eq c) (by decide)) $$ HS; iintro HS
  iapply (sig_step m K c 8 (by decide) (k0_dev9_eq c) (by decide)) $$ HS; iintro HS
  iapply (sig_step m K c 9 (by decide) (k0_dev10_eq c) (by decide)) $$ HS; iintro HS
  iapply (sig_step m K c 10 (by decide) (k0_dev11_eq c) (by decide)) $$ HS; iintro HS
  iapply (sig_step m K c 11 (by decide) (k0_dev12_eq c) (by decide)) $$ HS; iintro HS
  iapply (sig_step m K c 12 (by decide) (k0_dev13_eq c) (by decide)) $$ HS; iintro HS
  iapply (sig_step m K c 13 (by decide) (k0_dev14_eq c) (by decide)) $$ HS; iintro HS
  iapply (sig_step m K c 14 (by decide) (k0_dev15_eq c) (by decide)) $$ HS; iintro HS
  -- the barrier wait
  iapply (bar_step m K c (by decide)) $$ [HS HcB HaB]
  · isplitl [HS]; · iexact HS
    isplitr; · iexact Hlev
    isplitl [HcB] <;> iassumption
  iintro ⟨-, HO, HaB, Hp⟩
  -- the loads
  iapply (wp_load 𝒱₀ (c : Thread nD τ) none Set.univ (m := (Memref.whole cc0_stg1_0 : Memref sig .tc .vmem S1024x1 .i32)) (Finset.subset_univ _)) $$ Hidx; iintro Hidx
  rw [read_idx]
  iapply (wp_load 𝒱₀ (c : Thread nD τ) none Set.univ (m := (Memref.whole cc0_stg0_0 : Memref sig .tc .vmem S1024x256 .f32)) (Finset.subset_univ _)) $$ Hx; iintro Hx
  rw [read_x]
  iapply (wp_load 𝒱₀ (c : Thread nD τ) none Set.univ (m := (Memref.whole cc0_stg2_0 : Memref sig .tc .vmem S4x256x512 .f32)) (Finset.subset_univ _)) $$ Hw; iintro Hw
  iapply (wp_load 𝒱₀ (c : Thread nD τ) none Set.univ (m := (Memref.whole cc0_stg2_0 : Memref sig .tc .vmem S4x256x512 .f32)) (Finset.subset_univ _)) $$ Hw; iintro Hw
  iapply (wp_load 𝒱₀ (c : Thread nD τ) none Set.univ (m := (Memref.whole cc0_stg2_0 : Memref sig .tc .vmem S4x256x512 .f32)) (Finset.subset_univ _)) $$ Hw; iintro Hw
  iapply (wp_load 𝒱₀ (c : Thread nD τ) none Set.univ (m := (Memref.whole cc0_stg2_0 : Memref sig .tc .vmem S4x256x512 .f32)) (Finset.subset_univ _)) $$ Hw; iintro Hw
  -- the slab into the own slot
  iapply (own_load c ((k0_off1_eq c).trans (k0_off3_eq c).symm) f0) $$ Hown; iintro %vd Hown
  iapply (own_store m c ((k0_off1_eq c).trans (k0_off3_eq c).symm) rfl f0) $$ Hown; iintro Hown
  -- the copies
  ihave HS := (snd_start m K c) $$ [HO HtS HtR Hp Hown]
  · isplitr; · iexact HR
    isplitl [HO]; · iexact HO
    isplitl [HtS]; · iexact HtS
    isplitl [HtR]; · iexact HtR
    isplitl [Hp] <;> iassumption
  icases HS with ⟨HS, Hown⟩
  iapply (snd_step m K c 0 (by decide) (k0_dev16_eq c) (by decide) (own_sem c)) $$ HS; iintro HS
  iapply (snd_step m K c 1 (by decide) (k0_dev17_eq c) (by decide) (own_sem c)) $$ HS; iintro HS
  iapply (snd_step m K c 2 (by decide) (k0_dev18_eq c) (by decide) (own_sem c)) $$ HS; iintro HS
  iapply (snd_step m K c 3 (by decide) (k0_dev19_eq c) (by decide) (own_sem c)) $$ HS; iintro HS
  iapply (snd_step m K c 4 (by decide) (k0_dev20_eq c) (by decide) (own_sem c)) $$ HS; iintro HS
  iapply (snd_step m K c 5 (by decide) (k0_dev21_eq c) (by decide) (own_sem c)) $$ HS; iintro HS
  iapply (snd_step m K c 6 (by decide) (k0_dev22_eq c) (by decide) (own_sem c)) $$ HS; iintro HS
  iapply (snd_step m K c 7 (by decide) (k0_dev23_eq c) (by decide) (own_sem c)) $$ HS; iintro HS
  iapply (snd_step m K c 8 (by decide) (k0_dev24_eq c) (by decide) (own_sem c)) $$ HS; iintro HS
  iapply (snd_step m K c 9 (by decide) (k0_dev25_eq c) (by decide) (own_sem c)) $$ HS; iintro HS
  iapply (snd_step m K c 10 (by decide) (k0_dev26_eq c) (by decide) (own_sem c)) $$ HS; iintro HS
  iapply (snd_step m K c 11 (by decide) (k0_dev27_eq c) (by decide) (own_sem c)) $$ HS; iintro HS
  iapply (snd_step m K c 12 (by decide) (k0_dev28_eq c) (by decide) (own_sem c)) $$ HS; iintro HS
  iapply (snd_step m K c 13 (by decide) (k0_dev29_eq c) (by decide) (own_sem c)) $$ HS; iintro HS
  iapply (snd_step m K c 14 (by decide) (k0_dev30_eq c) (by decide) (own_sem c)) $$ HS; iintro HS
  -- its own tokens' expert indices
  iapply (wp_load 𝒱₀ (c : Thread nD τ) none Set.univ (m := (Memref.whole cc0_stg1_0 : Memref sig .tc .vmem S1024x1 .i32)) (Finset.subset_univ _)) $$ Hidx; iintro Hidx
  -- the receive waits
  ihave HS := (rcv_start m K c) $$ [HS HcR HaR]
  · isplitl [HS]; · iexact HS
    isplitl [HcR] <;> iassumption
  icases HS with ⟨HS, HcS⟩
  iapply (rcv_step m K c 0 (by decide) (peer_sem c 0) (by rfl)) $$ HS; iintro HS
  iapply (rcv_step m K c 1 (by decide) (peer_sem c 1) (by rfl)) $$ HS; iintro HS
  iapply (rcv_step m K c 2 (by decide) (peer_sem c 2) (by rfl)) $$ HS; iintro HS
  iapply (rcv_step m K c 3 (by decide) (peer_sem c 3) (by rfl)) $$ HS; iintro HS
  iapply (rcv_step m K c 4 (by decide) (peer_sem c 4) (by rfl)) $$ HS; iintro HS
  iapply (rcv_step m K c 5 (by decide) (peer_sem c 5) (by rfl)) $$ HS; iintro HS
  iapply (rcv_step m K c 6 (by decide) (peer_sem c 6) (by rfl)) $$ HS; iintro HS
  iapply (rcv_step m K c 7 (by decide) (peer_sem c 7) (by rfl)) $$ HS; iintro HS
  iapply (rcv_step m K c 8 (by decide) (peer_sem c 8) (by rfl)) $$ HS; iintro HS
  iapply (rcv_step m K c 9 (by decide) (peer_sem c 9) (by rfl)) $$ HS; iintro HS
  iapply (rcv_step m K c 10 (by decide) (peer_sem c 10) (by rfl)) $$ HS; iintro HS
  iapply (rcv_step m K c 11 (by decide) (peer_sem c 11) (by rfl)) $$ HS; iintro HS
  iapply (rcv_step m K c 12 (by decide) (peer_sem c 12) (by rfl)) $$ HS; iintro HS
  iapply (rcv_step m K c 13 (by decide) (peer_sem c 13) (by rfl)) $$ HS; iintro HS
  iapply (rcv_step m K c 14 (by decide) (peer_sem c 14) (by rfl)) $$ HS; iintro HS
  ihave HS := (rcv_end m K c) $$ [HS Hown]
  · isplitl [HS] <;> iassumption
  icases HS with ⟨-, HO, HaR, Hg, Hl⟩
  -- the gathered buffer read, the result written
  iapply (wp_load 𝒱₀ (c : Thread nD τ) none Set.univ (m := gM) (Finset.subset_univ _)) $$ Hg; iintro Hg
  rw [read_g]
  iapply (wp_load 𝒱₀ (c : Thread nD τ) none Set.univ (m := (Memref.whole cc0_stg3_0 : Memref sig .tc .vmem S64x512 .f32)) (Finset.subset_univ _)) $$ Hout; iintro Hout
  iapply (wp_store 𝒱₀ (c : Thread nD τ) none Set.univ (m := (Memref.whole cc0_stg3_0 : Memref sig .tc .vmem S64x512 .f32))
    (r := Rect.unit (s := S64x512) ![0, 0] S64x512.size inb_S64x512_S64x512_0_0) (Mk := Finset.univ) (Finset.subset_univ _)) $$ Hout; iintro Hout
  rw [write_out]
  -- the send waits
  ihave HS := (drn_start m K c) $$ [HO HcS HaS]
  · isplitr; · iexact HR
    isplitl [HO]; · iexact HO
    isplitl [HcS] <;> iassumption
  iapply (drn_step m K c 0 (by decide) (by decide) (by rfl)) $$ HS; iintro HS
  iapply (drn_step m K c 1 (by decide) (by decide) (by rfl)) $$ HS; iintro HS
  iapply (drn_step m K c 2 (by decide) (by decide) (by rfl)) $$ HS; iintro HS
  iapply (drn_step m K c 3 (by decide) (by decide) (by rfl)) $$ HS; iintro HS
  iapply (drn_step m K c 4 (by decide) (by decide) (by rfl)) $$ HS; iintro HS
  iapply (drn_step m K c 5 (by decide) (by decide) (by rfl)) $$ HS; iintro HS
  iapply (drn_step m K c 6 (by decide) (by decide) (by rfl)) $$ HS; iintro HS
  iapply (drn_step m K c 7 (by decide) (by decide) (by rfl)) $$ HS; iintro HS
  iapply (drn_step m K c 8 (by decide) (by decide) (by rfl)) $$ HS; iintro HS
  iapply (drn_step m K c 9 (by decide) (by decide) (by rfl)) $$ HS; iintro HS
  iapply (drn_step m K c 10 (by decide) (by decide) (by rfl)) $$ HS; iintro HS
  iapply (drn_step m K c 11 (by decide) (by decide) (by rfl)) $$ HS; iintro HS
  iapply (drn_step m K c 12 (by decide) (by decide) (by rfl)) $$ HS; iintro HS
  iapply (drn_step m K c 13 (by decide) (by decide) (by rfl)) $$ HS; iintro HS
  iapply (drn_step m K c 14 (by decide) (by decide) (by rfl)) $$ HS; iintro HS
  ihave HS := (drn_end m K c) $$ [HS Hg Hl]
  · isplitl [HS]; · iexact HS
    isplitl [Hg] <;> iassumption
  icases HS with ⟨-, HO, HaS, Hg⟩
  -- all semaphores are done with
  imod (close_cells m K c) $$ [HaB HaS HaO HaR] with Hz
  · isplitr; · iexact HR
    isplitl [HaB]; · iexact HaB
    isplitl [HaS]; · iexact HaS
    isplitl [HaO] <;> iassumption
  rw [wp_ret]; imodintro
  iapply Hk
  unfold bodyPost
  isplitl [Hg Hz]
  · isplitl [Hg]; · iexists _; iexact Hg
    iexact Hz
  isplitl [HO]; · iexact HO
  isplitl [Hx]; · iexact Hx
  isplitl [Hidx]; · iexact Hidx
  isplitl [Hw]; · iexact Hw
  iexact Hout

end Cert.Dispatch

end
-- ==== Proof.Launch.lean ====
/-
# `Launch`: the run of the sixteen devices

The pipeline of the one kernel call on every device (what each staging buffer holds before and after the body), the
kernel's body as that pipeline's obligation, and the run of `@main`: every execution ends, with the result of `outAt` on every
device, the arguments as they were and every semaphore counter at zero.
-/
module

public import proofs.«01_k».proof.Proof.Fund
public import proofs.«01_k».proof.Proof.Body
public import Idealize.ShloMosaic.Lib.Pipeline.CollectiveSegs

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: the given contents, every counter at zero. -/
def s₀ : MemSt nD τ sig (Elt F) := ⟨m, fun _ => 0, ρ⟩

theorem cfg0_N : cfg0.N = 1 := N_0
def t₀ : Fin cfg0.N := t0_0
theorem fin_N (t : Fin cfg0.N) : t = t₀ := fin_N0 t

/-- What a device carries into its body besides its staging buffers. -/
def start (c : Dev nD) : sProp 𝕄 := iprop(ready m c ∗ credits c ∗ levAts L lv)
def Φ₀ (c : Dev nD) : sProp 𝕄 := iprop(start m c ∗ ∃ f, wholePts c fullShare f)
/-- What it carries out of it. -/
def Φ₁ (c : Dev nD) : sProp 𝕄 := iprop((∃ f, wholePts c fullShare f) ∗ bigSep Finset.univ fun k : Fin 32 => semVal (kcell (c, k)) 0)

/-- The pipeline of device `c`: the arrays' contents at launch, what each staging buffer holds after the body, what the body
    carries in and out, and what the device owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => idxIn m c
    | ⟨2, _⟩ => wIn m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held with the contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d) : (dats m ρ 0 c).before (0 : Fin 4) t₀ d = xIn m c := by
  unfold Dat.before; rw [if_pos (fetch0_0 t₀)]; rfl
theorem before_idx (c : Dev nD) (d) : (dats m ρ 0 c).before (1 : Fin 4) t₀ d = idxIn m c := by
  unfold Dat.before; rw [if_pos (fetch0_1 t₀)]; rfl
theorem before_w (c : Dev nD) (d) : (dats m ρ 0 c).before (2 : Fin 4) t₀ d = wIn m c := by
  unfold Dat.before; rw [if_pos (fetch0_2 t₀)]; rfl

def entry (c : Dev nD) : sProp 𝕄 :=
  iprop(Φ₀ m c ∗ (dats m ρ 0 c).owesAt () t₀.castSucc
    ∗ (∃ d, holds c cc0_stg0_0 ((dats m ρ 0 c).before (0 : Fin 4) t₀ d)) ∗ (∃ d, holds c cc0_stg1_0 ((dats m ρ 0 c).before (1 : Fin 4) t₀ d))
    ∗ (∃ d, holds c cc0_stg2_0 ((dats m ρ 0 c).before (2 : Fin 4) t₀ d)) ∗ (∃ d, holds c cc0_stg3_0 ((dats m ρ 0 c).before (3 : Fin 4) t₀ d)))

def exit (c : Dev nD) : sProp 𝕄 :=
  iprop(Φ₁ c ∗ (dats m ρ 0 c).owesAt () t₀.succ
    ∗ holds c cc0_stg0_0 (xIn m c) ∗ holds c cc0_stg1_0 (idxIn m c) ∗ holds c cc0_stg2_0 (wIn m c) ∗ holds c cc0_stg3_0 (outAt m c))

theorem holds_intro (c : Dev nD) (b : Ref sig .tc) (X : b.ty.Contents (Elt F)) : pts c b X ⊢ holds c b X := by
  iintro H; iexists X; isplitr; · (ipureintro; rfl)
  iexact H

theorem exit_intro (c : Dev nD) : bodyPost m c ⊢ exit m ρ c := by
  unfold bodyPost exit Φ₁ Dat.owesAt Pipeline.owesWithin
  rw [show (dats m ρ 0 c).owed t₀.succ = 0 from rfl]
  iintro ⟨HΦ, ⟨%W, HO⟩, H0, H1, H2, H3⟩
  isplitl [HΦ]; · iexact HΦ
  isplitl [HO]
  · iexists W; isplitr; · ipureintro; exact fun _ _ => Or.inl trivial
    iexact HO
  isplitl [H0]; · iapply (holds_intro c cc0_stg0_0 (xIn m c)); iexact H0
  isplitl [H1]; · iapply (holds_intro c cc0_stg1_0 (idxIn m c)); iexact H1
  isplitl [H2]; · iapply (holds_intro c cc0_stg2_0 (wIn m c)); iexact H2
  iapply (holds_intro c cc0_stg3_0 (outAt m c)); iexact H3

theorem entry_elim (c : Dev nD) : entry m ρ c ⊢ iprop(∃ K, bodyPre m K c) := by
  unfold entry Φ₀ start ready credits bodyPre Dat.owesAt Pipeline.owesWithin
  rw [show (dats m ρ 0 c).owed t₀.castSucc = O₀ c from rfl]
  iintro ⟨⟨⟨⟨%K, Hg⟩, Hc, Hl⟩, Hw⟩, ⟨%W, -, HO⟩, ⟨%d0, %f0, %h0, H0⟩, ⟨%d1, %f1, %h1, H1⟩, ⟨%d2, %f2, %h2, H2⟩, ⟨%d3, %f3, %h3, H3⟩⟩
  rw [before_x] at h0; rw [before_idx] at h1; rw [before_w] at h2
  subst h0 h1 h2
  iexists K
  isplitl [Hg]; · iexact Hg
  isplitl [Hc]; · iexact Hc
  isplitl [Hl]; · iexact Hl
  isplitl [Hw]; · iexact Hw
  isplitl [HO]; · iexists W; iexact HO
  isplitl [H0]; · iexact H0
  isplitl [H1]; · iexact H1
  isplitl [H2]; · iexact H2
  iexists f3; iexact H3

set_option maxRecDepth 8000 in
/-- The kernel's body meets the pipeline's obligation on every device. -/
theorem body_obligation (c : Dev nD) : BodyObligation (dats (F := F) m ρ 0 c) (defs₀ (F := F)) 𝒱₀ () Set.univ := fun t => by
  rw [fin_N t, bigSep_W0, bigSep_W0]
  simp only [owns_whole_eq]
  show entry m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => exit m ρ c)
  refine (entry_elim m ρ c).trans ?_
  iintro ⟨%K, H⟩
  iapply (sound_body m K c fun _ => exit m ρ c)
  isplitl [H]; · iexact H
  iintro H'; iapply (exit_intro m ρ c); iexact H'

/-! ## The launch -/

theorem share_eq (c : Dev nD) (w : Fin cfg0.W) : (dats m ρ 0 c).share w = fullShare := by unfold Dat.share; split <;> rfl

/-- The router weights, which the kernel never touches. -/
def router (c : Dev nD) : sProp 𝕄 := pts c main_arg1 (m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ router m c) := by
  rw [Pipeline.unscopedRestP_none, unscopedRest0_eq]
  iintro ⟨Hr, Hlev, Hcr, -, HG⟩
  ihave Hc := (credits_intro (F := F) c) $$ Hcr
  imodintro
  unfold start router
  isplitl [HG Hc Hlev]
  · isplitl [HG]; · iexact HG
    isplitl [Hc]; · iexact Hc
    iexact Hlev
  iexact Hr

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array when the run ends. -/
def finalA (c : Dev nD) (w : Fin cfg0.W) : Buf (Elt F) ((cfg0.win w).arr.view.loc (c : Thread nD τ)) := (dats m ρ 0 c).arrAt w cfg0.N

/-- What holds of a device at the end besides its arrays: the router weights unchanged, the barrier's counter at zero. -/
def Rest (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem rest_read (c : Dev nD) (s' : Phys nD τ sig (Elt F)) :
    iprop(unscopedSems0 c ∗ router m c ∗ SI s') ⊢ |={Set.univ}=> (iprop(⌜Rest m c s'.mem⌝ ∗ SI s') : sProp 𝕄) := by
  unfold router
  iintro ⟨Hu, Hr, HSI⟩
  icombine HSI Hr gives %h
  imod (Pipeline.unscopedSems0_read (X := unscopedSems0 c) (c := c) fupd_intro s') $$ [Hu HSI] with ⟨%hs, HSI⟩
  · isplitl [Hu] <;> iassumption
  imodintro
  isplitr; · ipureintro; exact ⟨Buf.eq_of_forall_mem_univ h, hs⟩
  iexact HSI

/-- What the run ends with. -/
def Final : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with every counter at zero, every weakly fair execution of `@main` on the sixteen devices terminates,
    with every window's array at its final contents, the router weights unchanged and every semaphore counter at zero. -/
theorem run_region : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := router m)
    (hX := start_intro m ρ) (hin := phi0_intro m ρ) (hout := phi1_exit m ρ)
    (QY := Rest m) (hY := rest_read m)
    (hQ := fun _ h hs => ⟨fun c => ⟨fun w => (h c).1 w, (h c).2.2.1⟩, sem_eq_zero hs fun c => (h c).2.2.2⟩)

/-! ## The arrays at the end -/

theorem finalA_x (c : Dev nD) : finalA m ρ c (0 : Fin 4) = m ((c : Thread nD τ).loc main_arg0) := (dats (F := F) m ρ 0 c).arrAt_in (0 : Fin 4) rfl _
theorem finalA_idx (c : Dev nD) : finalA m ρ c (1 : Fin 4) = m ((c : Thread nD τ).loc main_arg2) := (dats (F := F) m ρ 0 c).arrAt_in (1 : Fin 4) rfl _
theorem finalA_w (c : Dev nD) : finalA m ρ c (2 : Fin 4) = m ((c : Thread nD τ).loc main_arg3) := (dats (F := F) m ρ 0 c).arrAt_in (2 : Fin 4) rfl _

end Cert.Dispatch

end
-- ==== Proof.Run.lean ====
/-
# `Run`: the run of `@main`, its arrays read

The pipeline's arrays at the end of the run read as buffers: the result buffer holds `outAt`, the arguments what they held;
and what the staging buffers receive are the argument buffers. The frames of the kernel and of its reading over the
extended reals follow.
-/
module

public import proofs.«01_k».proof.Defs
public import proofs.«01_k».proof.Proof.Launch
public import proofs.«01_k».proof.Proof.Gen.Kernel

@[expose] public section

noncomputable section

namespace Cert.Dispatch

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

variable (m : (ℓ : Loc nD τ sig) → Buf (Elt F) ℓ) (ρ : Dev nD → PrngReg)

/-- The one block of every window begins at the origin. -/
theorem whole_off (w : Fin 4) : (fun a => (cfg0.win w).index t0_0 a * (cfg0.win w).block.size a) = fun _ => 0 :=
  funext fun a => by revert a; revert w; decide

/-- The one block of a window over a whole array is the array. -/
theorem xIn_eq (c : Dev nD) : xIn m c = m ((c : Thread nD τ).loc main_arg0) :=
  Memref.read_access_unit_zero (Elt F) main_arg0 (whole_off 0) (fun a => by rw [congrFun (whole_off 0) a]; simp) _
theorem idxIn_eq (c : Dev nD) : idxIn m c = m ((c : Thread nD τ).loc main_arg2) :=
  Memref.read_access_unit_zero (Elt F) main_arg2 (whole_off 1) (fun a => by rw [congrFun (whole_off 1) a]; simp) _
theorem wIn_eq (c : Dev nD) : wIn m c = m ((c : Thread nD τ).loc main_arg3) :=
  Memref.read_access_unit_zero (Elt F) main_arg3 (whole_off 2) (fun a => by rw [congrFun (whole_off 2) a]; simp) _

theorem read_res (c : Dev nD) (f : Buf (Elt F) ((cfg0.win 3).arr.view.loc (c : Thread nD τ))) :
    ((cfg0.win 3).blk t0_0).view.read (Elt F) f = f :=
  Memref.read_access_unit_zero (Elt F) main_v1 (whole_off 3) (fun a => by rw [congrFun (whole_off 3) a]; simp) f

/-- The result array at the end of the run. -/
theorem finalA_out (c : Dev nD) : finalA m ρ c (3 : Fin 4) = outAt m c := by
  have hw : ((cfg0.win 3).blk t0_0).view.read (Elt F) (finalA m ρ c (3 : Fin 4)) = (dats m ρ 0 c).flushed 3 t0_0 := by
    unfold finalA
    rw [show cfg0.N = t0_0.val + 1 from rfl, (dats m ρ 0 c).arrAt_succ (3 : Fin 4) t0_0, flush0_3, if_pos rfl]
    exact View.read_write_univ _ _
  exact (read_res c _).symm.trans (hw.trans rfl)

/-- From any memory with every counter at zero, every weakly fair execution of `@main` on the sixteen devices terminates, with the
    result of `outAt` on every device, the four arguments unchanged and every semaphore counter at zero. -/
theorem run_main : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).1 3).trans (finalA_out m ρ c), ((h.1 c).1 0).trans (finalA_x m ρ c), (h.1 c).2,
      ((h.1 c).1 1).trans (finalA_idx m ρ c), ((h.1 c).1 2).trans (finalA_w m ρ c)⟩, h.2⟩) (run_region m ρ)

/-- The frame of the kernel over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The frame's sentence of the kernel, over machine floats, of the program printed for the extended reals. -/
def QuiescentBits : Prop :=
  ∀ (m : (ℓ : Loc nD τ sig) → Buf (Elt Bits) ℓ) (g : Dev nD → PrngReg), Cert.Pre_Kernel m →
    θ_run defs (onTc (τ := τ) (main (F := Bits))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)

/-- The two programs are one text, so that sentence is the frame of the kernel. -/
theorem quiescent_same : Cert.quiescent_Kernel = QuiescentBits := by sl_kernel_rfl

theorem quiescentBits : QuiescentBits := fun m ρ _ =>
  (θ_run defs _ _).mono (fun _ h => ⟨fun c => (h.1 c).2, h.2⟩) (run_main (F := Bits) m ρ)

/-- The frame of the kernel over machine floats. -/
theorem frame_kernel : Cert.quiescent_Kernel := quiescent_same.mpr quiescentBits

end Cert.Dispatch

end
-- ==== Proof.Reference.lean ====
/-
# `Reference`: the frame of the reference

Its run is the generated one; it has no semaphore at all.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Dispatch

open Idealize.ShloMosaic Idealize.SL.Sem

/-- The frame of the reference over the extended reals. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Dispatch

end
-- ==== Proof.Words.lean ====
/-
# `Words`: the index words of the kernel, and a comparison's bit as a number

The kernel computes quotients and remainders of row numbers with the sign corrections of a floor division. On the small
natural numbers at which they occur these corrections do nothing.
-/
module

public import proofs.«01_k».proof.Proof.Protocol
public import Idealize.ShloMosaic.Lib.Pointwise
public import Idealize.ShloMosaic.Lib.WordCmp

@[expose] public section

set_option maxRecDepth 16384

noncomputable section

namespace Cert.Dispatch

open Cert.KernelIdeal Cert.KernelIdeal.Gen
open Idealize.ShloMosaic

/-! ## Quotient and remainder -/

/-- The floor quotient of two words, as it is computed: the quotient toward zero, less one where the signs differ and the
    remainder is not zero. -/
def flr (a b : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt b 0#32)) (Scalar.extui (Scalar.cmpi .slt b 0#32))))
      (IntOp.cmpi .ne (IntOp.remsi .vector a b) 0#32))
    (IntOp.subi (IntOp.divsi .vector a b) 1#32) (IntOp.divsi .vector a b)

/-- The divisor, one in the place of zero. -/
def dvs (b : BitVec 32) : BitVec 32 := Scalar.select (Scalar.cmpi .eq b 0#32) 1#32 b

/-- The floor remainder of two words, as it is computed: the divisor is added where the remainder is not zero and has the
    other sign. -/
def flm (a b : BitVec 32) : BitVec 32 :=
  Scalar.select
    (IntOp.andi (IntOp.xori (IntOp.cmpi .slt (IntOp.remsi .vector a (dvs b)) 0#32) (Scalar.cmpi .slt (dvs b) 0#32))
      (IntOp.cmpi .ne (IntOp.remsi .vector a (dvs b)) 0#32))
    (IntOp.addi (IntOp.remsi .vector a (dvs b)) (dvs b)) (IntOp.remsi .vector a (dvs b))

/-- Of the row numbers of the gathered buffer, by twelve and by forty-eight, these are the natural quotient and remainder. -/
theorem flr_12 : ∀ n : Fin 768, flr (BitVec.ofNat 32 n.val) 12#32 = BitVec.ofNat 32 (n.val / 12) := by decide +kernel
theorem flr_48 : ∀ n : Fin 768, flr (BitVec.ofNat 32 n.val) 48#32 = BitVec.ofNat 32 (n.val / 48) := by decide +kernel
theorem flm_12 : ∀ n : Fin 768, flm (BitVec.ofNat 32 n.val) 12#32 = BitVec.ofNat 32 (n.val % 12) := by decide +kernel
theorem flm_48 : ∀ n : Fin 768, flm (BitVec.ofNat 32 n.val) 48#32 = BitVec.ofNat 32 (n.val % 48) := by decide +kernel

/-- A device's number is its word. -/
theorem myWord_eq : ∀ d : Dev nD, myWord d = BitVec.ofNat 32 d.val := by decide +kernel

/-- A device's number times a small word and a small word added. -/
theorem muladd (a b k : ℕ) : IntOp.addi (Scalar.muli (BitVec.ofNat 32 a) (BitVec.ofNat 32 k)) (BitVec.ofNat 32 b) = BitVec.ofNat 32 (a * k + b) := by
  rw [BitVec.ofNat_add, BitVec.ofNat_mul]; rfl

theorem muladd' (a b k : ℕ) : IntOp.addi (IntOp.muli (BitVec.ofNat 32 a) (BitVec.ofNat 32 k)) (BitVec.ofNat 32 b) = BitVec.ofNat 32 (a * k + b) := by
  rw [BitVec.ofNat_add, BitVec.ofNat_mul]; rfl

theorem addOne (a : ℕ) : IntOp.addi (BitVec.ofNat 32 a) 1#32 = BitVec.ofNat 32 (a + 1) := by
  rw [BitVec.ofNat_add]; rfl

/-- Words of small naturals are equal exactly when the naturals are. -/
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A word is that of a small natural exactly when it reads as it. -/
theorem word_eq {v : BitVec 32} {b : ℕ} (hb : b < 2 ^ 32) : v = BitVec.ofNat 32 b ↔ v.toNat = b := by
  constructor
  · rintro rfl; rw [BitVec.toNat_ofNat, Nat.mod_eq_of_lt hb]
  · rintro rfl; rw [BitVec.ofNat_toNat, BitVec.setWidth_eq]

/-! ## Comparison bits -/

theorem eq_bit (a b : BitVec 32) : IntOp.cmpi .eq a b = 1#1 ↔ a = b := by
  rw [WordCmp.cmpi_eq_eq]
  by_cases h : a = b <;> simp [h]

theorem sle_bit {a b : ℕ} (ha : a < 2 ^ 31) (hb : b < 2 ^ 31) : IntOp.cmpi .sle (BitVec.ofNat 32 a) (BitVec.ofNat 32 b) = 1#1 ↔ a ≤ b := by
  rw [WordCmp.cmpi_sle_ofNat ha hb]
  by_cases h : a ≤ b <;> simp [h]

theorem and_bit : ∀ p q : BitVec 1, IntOp.andi p q = 1#1 ↔ p = 1#1 ∧ q = 1#1 := by decide

/-- A bit read as a number over the extended reals. -/
theorem num_bit (b : BitVec 1) : (FloatOps.sitofp FTy.f32 (BitVec.setWidth 32 b) : Ideal .f32) = if b = 1#1 then (1 : EReal) else 0 := by
  show (((BitVec.setWidth 32 b).toInt : ℝ) : EReal) = _
  rcases BitVec.eq_zero_or_eq_one b with rfl | rfl
  · rw [if_neg (by decide), show (BitVec.setWidth 32 0#1).toInt = 0 by decide]; simp
  · rw [if_pos rfl, show (BitVec.setWidth 32 1#1).toInt = 1 by decide]; simp

/-- A select by a bit. -/
theorem select_bit {α : Type} (b : BitVec 1) (x y : α) : Scalar.select b x y = if b = 1#1 then x else y := rfl

/-! ## Numbers -/

/-- A count of ones over the extended reals. -/
theorem sum_ones {ι : Type} [Fintype ι] (p : ι → Prop) [DecidablePred p] :
    (∑ i, if p i then (1 : EReal) else 0) = (((Finset.univ.filter p).card : ℝ) : EReal) := by
  rw [← Finset.sum_filter]
  induction Finset.univ.filter p using Finset.cons_induction with
  | empty => simp
  | cons a s h ih => rw [Finset.sum_cons, ih, Finset.card_cons, ← EReal.coe_one, ← EReal.coe_add, add_comm]; push_cast; rfl

/-- A natural, rounded toward zero, is its word. -/
theorem toWord {n : ℕ} (hn : n < 2 ^ 31) : FloatOps.fptosi (F := Ideal) (φ := .f32) 32 ((n : ℝ) : EReal) = BitVec.ofNat 32 n := by
  show BitVec.ofInt 32 (Ideal.toIntClamped (-(2 ^ (32 - 1) : ℕ)) ((2 ^ (32 - 1) : ℕ) - 1) ((n : ℝ) : EReal)) = _
  rw [Ideal.toIntClamped_coe, if_pos (Nat.cast_nonneg n), Int.floor_natCast, min_eq_right (by omega), max_eq_right (by omega)]
  exact BitVec.ofInt_natCast 32 n

/-- A sum with one number at one place and zeros elsewhere. -/
theorem sum_one_place {ι : Type} [Fintype ι] [DecidableEq ι] (p : ι → Prop) [DecidablePred p] (f : ι → EReal) (i : ι) (h : ∀ k, p k ↔ k = i) :
    (∑ k, (if p k then (1 : EReal) else 0) * f k) = f i := by
  rw [Finset.sum_eq_single i]
  · rw [if_pos ((h i).2 rfl), one_mul]
  · intro k _ hk; rw [if_neg fun e => hk ((h k).1 e), zero_mul]
  · intro h'; exact absurd (Finset.mem_univ i) h'

theorem sum_no_place {ι : Type} [Fintype ι] (p : ι → Prop) [DecidablePred p] (f : ι → EReal) (h : ∀ k, ¬ p k) :
    (∑ k, (if p k then (1 : EReal) else 0) * f k) = 0 :=
  Finset.sum_eq_zero fun k _ => by rw [if_neg (h k), zero_mul]

end Cert.Dispatch

end
-- ==== Proof.Reads.lean ====
/-
# `Reads`: the kernel's vectors, element by element, over the extended reals

Each stage of the kernel's arithmetic read at an element: sums of products, comparisons of words, and the selections.
-/
module

public import proofs.«01_k».proof.Proof.Words

@[expose] public section

set_option maxRecDepth 16384

noncomputable section

namespace Cert.Dispatch

open Cert.KernelIdeal Cert.KernelIdeal.Gen
open Idealize.ShloMosaic

/-- The tokens up to and including token `i` that go to expert `k`. -/
def upTo (e : Vec Ideal S1024x1 .i32) (i : Fin 1024) (k : ℕ) : ℕ :=
  (Finset.univ.filter fun x : Fin 1024 => x ≤ i ∧ e (ix2 x 0) = BitVec.ofNat 32 k).card

/-- The rank of token `i` among the tokens of its expert, counted from one; zero where its word names no expert. -/
def rank (e : Vec Ideal S1024x1 .i32) (i : Fin 1024) : ℕ := if (e (ix2 i 0)).toNat < 64 then upTo e i (e (ix2 i 0)).toNat else 0

theorem upTo_le (e : Vec Ideal S1024x1 .i32) (i : Fin 1024) (k : ℕ) : upTo e i k ≤ 1024 :=
  (Finset.card_le_univ _).trans (by simp)

theorem rank_le (e : Vec Ideal S1024x1 .i32) (i : Fin 1024) : rank e i ≤ 1024 := by
  unfold rank; split
  · exact upTo_le e i _
  · omega

/-- The running count of expert `k` at token `i`, kept where the token goes to that expert. -/
theorem read2 (e : Vec Ideal S1024x1 .i32) (i : Fin 1024) (k : Fin 64) :
    k0_pay2 (F := Ideal) e (ix2 i k) = if e (ix2 i 0) = BitVec.ofNat 32 k.val then ((upTo e i k.val : ℝ) : EReal) else 0 := by
  pointwise [k0_pay2, k0_pay1]
  simp only [num_bit, eq_bit]
  have h : ∀ x : Fin 1024, (if IntOp.cmpi .sle (BitVec.ofNat 32 x.val) (BitVec.ofNat 32 i.val) = 1#1 then (1 : EReal) else 0)
      * (if e (ix2 x 0) = BitVec.ofNat 32 k.val then (1 : EReal) else 0)
      = if x ≤ i ∧ e (ix2 x 0) = BitVec.ofNat 32 k.val then (1 : EReal) else 0 := fun x => by
    have hb := sle_bit (a := x.val) (b := i.val) (by omega) (by omega)
    by_cases hx : x ≤ i
    · rw [if_pos (hb.2 hx), one_mul]; exact if_congr ⟨fun h => ⟨hx, h⟩, fun h => h.2⟩ rfl rfl
    · rw [if_neg fun h => hx (hb.1 h), zero_mul, if_neg fun h => hx h.1]
  rw [Finset.sum_congr rfl fun x _ => h x, sum_ones]
  split
  · rw [one_mul]; rfl
  · rw [zero_mul]

/-- The rank of a token, as a number. -/
theorem read3 (e : Vec Ideal S1024x1 .i32) (i : Fin 1024) :
    k0_pay3 (F := Ideal) (k0_pay2 (F := Ideal) e) (ix2 i 0) = ((rank e i : ℝ) : EReal) := by
  have h : k0_pay3 (F := Ideal) (k0_pay2 (F := Ideal) e) (ix2 i 0) = ∑ k : Fin 64, k0_pay2 (F := Ideal) e (ix2 i k) := by
    pointwise [k0_pay3]
  rw [h, Finset.sum_congr rfl fun k _ => read2 e i k]
  unfold rank
  by_cases hk : (e (ix2 i 0)).toNat < 64
  · rw [if_pos hk, Finset.sum_eq_single (⟨(e (ix2 i 0)).toNat, hk⟩ : Fin 64)]
    · exact if_pos (by rw [word_eq (by omega)])
    · intro b _ hb
      refine if_neg fun hh => hb (Fin.ext ?_)
      exact ((word_eq (by omega)).1 hh).symm
    · intro h'; exact absurd (Finset.mem_univ _) h'
  · rw [if_neg hk, Finset.sum_eq_zero]
    · simp
    · intro b _
      refine if_neg fun hh => hk ?_
      rw [(word_eq (by omega)).1 hh]; exact b.isLt

/-- The rank of a token, as a word. -/
theorem read4 (e : Vec Ideal S1024x1 .i32) (i : Fin 1024) :
    k0_pay4 (F := Ideal) (k0_pay2 (F := Ideal) e) (ix2 i 0) = BitVec.ofNat 32 (rank e i) := by
  have h : k0_pay4 (F := Ideal) (k0_pay2 (F := Ideal) e) (ix2 i 0)
      = FloatOps.fptosi (F := Ideal) (φ := .f32) 32 (k0_pay3 (F := Ideal) (k0_pay2 (F := Ideal) e) (ix2 i 0)) := rfl
  rw [h, read3, toWord (lt_of_le_of_lt (rank_le e i) (by omega))]

/-- Token `i` has its place at row `s` of the slab of device `o`: it goes to the expert `o * 4 + s / 12` and has rank
    `s % 12 + 1` there. -/
def At (e : Vec Ideal S1024x1 .i32) (o s : ℕ) (i : Fin 1024) : Prop := e (ix2 i 0) = BitVec.ofNat 32 (o * 4 + s / 12) ∧ rank e i = s % 12 + 1

instance (e : Vec Ideal S1024x1 .i32) (o s : ℕ) (i : Fin 1024) : Decidable (At e o s i) := by unfold At; infer_instance

theorem read5 (o : Dev nD) (e : Vec Ideal S1024x1 .i32) (i : Fin 1024) (s : Fin 48) :
    k0_pay5 (myWord o) (k0_pay1 (F := Ideal) e) (ix2 i s) = 1#1 ↔ e (ix2 i 0) = BitVec.ofNat 32 (o.val * 4 + s.val / 12) := by
  have h : k0_pay5 (myWord o) (k0_pay1 (F := Ideal) e) (ix2 i s)
      = IntOp.cmpi .eq (e (ix2 i 0)) (IntOp.addi (Scalar.muli (myWord o) 4#32) (flr (BitVec.ofNat 32 s.val) 12#32)) := by
    pointwise [k0_pay5, k0_pay1]; rfl
  rw [h, eq_bit, myWord_eq, flr_12 ⟨s.val, by omega⟩, ← muladd]

/-- The selected tokens: row `s` of the slab's tokens is the sum of the tokens that have their place there. -/
theorem read9 (o : Dev nD) (e : Vec Ideal S1024x1 .i32) (x : Vec Ideal S1024x256 .f32) (s : Fin 48) (d : Fin 256) :
    k0_pay9 (F := Ideal) (k0_pay4 (F := Ideal) (k0_pay2 (F := Ideal) e)) (k0_pay5 (myWord o) (k0_pay1 (F := Ideal) e))
      (Scalar.select (Scalar.cmpi .eq 12#32 0#32) 1#32 12#32) k0_pay6 k0_pay7 k0_pay8 x (ix2 s d)
      = ∑ i : Fin 1024, (if At e o.val s.val i then (1 : EReal) else 0) * x (ix2 i d) := by
  have h : k0_pay9 (F := Ideal) (k0_pay4 (F := Ideal) (k0_pay2 (F := Ideal) e)) (k0_pay5 (myWord o) (k0_pay1 (F := Ideal) e))
      (Scalar.select (Scalar.cmpi .eq 12#32 0#32) 1#32 12#32) k0_pay6 k0_pay7 k0_pay8 x (ix2 s d)
      = ∑ i : Fin 1024, (FloatOps.sitofp FTy.f32 (BitVec.setWidth 32 (IntOp.andi (k0_pay5 (myWord o) (k0_pay1 (F := Ideal) e) (ix2 i s))
          (IntOp.cmpi .eq (k0_pay4 (F := Ideal) (k0_pay2 (F := Ideal) e) (ix2 i 0)) (IntOp.addi (flm (BitVec.ofNat 32 s.val) 12#32) 1#32)))) : Ideal .f32) * x (ix2 i d) := by
    pointwise [k0_pay9, k0_pay6, k0_pay7, k0_pay8]; rfl
  rw [h]
  refine Finset.sum_congr rfl fun i _ => congrArg (· * x (ix2 i d)) ?_
  rw [num_bit]
  refine if_congr ?_ rfl rfl
  rw [and_bit, read5, eq_bit, read4, flm_12 ⟨s.val, by omega⟩, addOne, word_inj (by have := rank_le e i; omega) (by omega)]
  rfl

/-- The result selects, for token `i` of all tokens, the row of the gathered buffer at which the token has its place. -/
theorem read20 (c : Dev nD) (e : Vec Ideal S1024x1 .i32) (r : Fin 64) (i : Fin 1024) (hi : i.val = c.val * 64 + r.val) :
    k0_pay20 (F := Ideal) (myWord c) (k0_pay3 (F := Ideal) (k0_pay2 (F := Ideal) e)) (ix2 r 0) = BitVec.ofNat 32 (rank e i) := by
  have h : k0_pay20 (F := Ideal) (myWord c) (k0_pay3 (F := Ideal) (k0_pay2 (F := Ideal) e)) (ix2 r 0)
      = FloatOps.fptosi (F := Ideal) (φ := .f32) 32 (∑ k : Fin 1024,
          (FloatOps.sitofp FTy.f32 (BitVec.setWidth 32 (IntOp.cmpi .eq (BitVec.ofNat 32 k.val) (IntOp.addi (Scalar.muli (myWord c) 64#32) (BitVec.ofNat 32 r.val)))) : Ideal .f32)
            * k0_pay3 (F := Ideal) (k0_pay2 (F := Ideal) e) (ix2 k 0)) := by
    pointwise [k0_pay20]
  have hc : c.val < 16 := c.isLt
  have hk : ∀ k : Fin 1024, IntOp.cmpi .eq (BitVec.ofNat 32 k.val) (IntOp.addi (Scalar.muli (myWord c) 64#32) (BitVec.ofNat 32 r.val)) = 1#1 ↔ k = i := fun k => by
    rw [eq_bit, myWord_eq, muladd, word_inj (by omega) (by omega), ← hi, Fin.ext_iff]
  simp only [num_bit] at h
  rw [h, sum_one_place _ (fun k => k0_pay3 (F := Ideal) (k0_pay2 (F := Ideal) e) (ix2 k 0)) i hk, read3,
    toWord (lt_of_le_of_lt (rank_le e i) (by omega))]

theorem read22 (v : Vec Ideal S64x1 .i32) (r : Fin 64) (g : Fin 768) :
    k0_pay22 (k0_pay19 (F := Ideal) v) (iota .tc S64x768 32 [1] iota_S64x768_d1_w32) k0_pay21 (ix2 r g) = 1#1
      ↔ v (ix2 r 0) = BitVec.ofNat 32 (g.val / 48 * 4 + g.val % 48 / 12) := by
  have h : k0_pay22 (k0_pay19 (F := Ideal) v) (iota .tc S64x768 32 [1] iota_S64x768_d1_w32) k0_pay21 (ix2 r g)
      = IntOp.cmpi .eq (v (ix2 r 0)) (IntOp.addi (IntOp.muli (flr (BitVec.ofNat 32 g.val) 48#32) 4#32) (flr (flm (BitVec.ofNat 32 g.val) 48#32) 12#32)) := by
    pointwise [k0_pay22, k0_pay21, k0_pay19]; rfl
  rw [h, eq_bit, flr_48, flm_48, flr_12 ⟨g.val % 48, by omega⟩, ← muladd']

theorem read23 (c : Dev nD) (e : Vec Ideal S1024x1 .i32) (v : Vec Ideal S64x1 .i32) (r : Fin 64) (g : Fin 768) (i : Fin 1024) (hi : i.val = c.val * 64 + r.val)
    (hv : v (ix2 r 0) = e (ix2 i 0)) :
    k0_pay23 (F := Ideal) (k0_pay20 (F := Ideal) (myWord c) (k0_pay3 (F := Ideal) (k0_pay2 (F := Ideal) e))) (iota .tc S64x768 32 [1] iota_S64x768_d1_w32)
      (k0_pay22 (k0_pay19 (F := Ideal) v) (iota .tc S64x768 32 [1] iota_S64x768_d1_w32) k0_pay21) 12#32 (ix2 r g)
      = if At e (g.val / 48) (g.val % 48) i then (1 : EReal) else 0 := by
  have h : k0_pay23 (F := Ideal) (k0_pay20 (F := Ideal) (myWord c) (k0_pay3 (F := Ideal) (k0_pay2 (F := Ideal) e))) (iota .tc S64x768 32 [1] iota_S64x768_d1_w32)
      (k0_pay22 (k0_pay19 (F := Ideal) v) (iota .tc S64x768 32 [1] iota_S64x768_d1_w32) k0_pay21) 12#32 (ix2 r g)
      = (FloatOps.sitofp FTy.f32 (BitVec.setWidth 32 (IntOp.andi (k0_pay22 (k0_pay19 (F := Ideal) v) (iota .tc S64x768 32 [1] iota_S64x768_d1_w32) k0_pay21 (ix2 r g))
          (IntOp.cmpi .eq (k0_pay20 (F := Ideal) (myWord c) (k0_pay3 (F := Ideal) (k0_pay2 (F := Ideal) e)) (ix2 r 0)) (IntOp.addi (flm (BitVec.ofNat 32 g.val) 12#32) 1#32)))) : Ideal .f32) := by
    pointwise [k0_pay23]; rfl
  rw [h, num_bit]
  refine if_congr ?_ rfl rfl
  rw [and_bit, read22, eq_bit, read20 c e r i hi, flm_12, addOne, word_inj (by have := rank_le e i; omega) (by omega), hv]
  unfold At
  rw [show g.val % 48 % 12 = g.val % 12 by omega]

/-- The result, from the gathered buffer. -/
theorem read24 (c : Dev nD) (e : Vec Ideal S1024x1 .i32) (v : Vec Ideal S64x1 .i32) (f : Vec Ideal S768x512 .bf16) (r : Fin 64) (j : Fin 512) (i : Fin 1024)
    (hi : i.val = c.val * 64 + r.val) (hv : v (ix2 r 0) = e (ix2 i 0)) :
    outOf (F := Ideal) (myWord c) e v f (ix2 r j)
      = ∑ g : Fin 768, (if At e (g.val / 48) (g.val % 48) i then (1 : EReal) else 0) * f (ix2 g j) := by
  have h : outOf (F := Ideal) (myWord c) e v f (ix2 r j)
      = ∑ g : Fin 768, k0_pay23 (F := Ideal) (k0_pay20 (F := Ideal) (myWord c) (k0_pay3 (F := Ideal) (k0_pay2 (F := Ideal) e))) (iota .tc S64x768 32 [1] iota_S64x768_d1_w32)
          (k0_pay22 (k0_pay19 (F := Ideal) v) (iota .tc S64x768 32 [1] iota_S64x768_d1_w32) k0_pay21) 12#32 (ix2 r g) * f (ix2 g j) := by
    unfold outOf
    pointwise [k0_pay24]
  rw [h]
  exact Finset.sum_congr rfl fun g _ => congrArg (· * f (ix2 g j)) (read23 c e v r g i hi hv)

end Cert.Dispatch

end
-- ==== Proof.Slabs.lean ====
/-
# `Slabs`: a device's slab, element by element, over the extended reals

Row `s` of the slab belongs to the device's expert `s / 12`: of the four products that are added, those of the other three
experts have zeros in that row.
-/
module

public import proofs.«01_k».proof.Proof.Reads

@[expose] public section

set_option maxRecDepth 16384

noncomputable section

namespace Cert.Dispatch

open Cert.KernelIdeal Cert.KernelIdeal.Gen
open Idealize.ShloMosaic

/-- The rows of a slab, numbered. -/
abbrev rows : IVec S48x1 32 := iota .tc S48x1 32 [0] iota_S48x1_d0_w32

theorem read18 (X : FVec Ideal S48x256 .f32) (v : FVec Ideal S48x512 .f32) (W : Vec Ideal S1x256x512 .f32) (s : Fin 48) (j : Fin 512) :
    k0_pay18 (F := Ideal) X rows v 12#32 (k0_pay16 rows) (k0_pay17 rows) (Scalar.extui (Scalar.cmpi .sgt 12#32 0#32))
      (Scalar.extui (Scalar.cmpi .slt 12#32 0#32)) W (ix2 s j)
      = v (ix2 s j) + ∑ d : Fin 256, Scalar.select (IntOp.cmpi .eq (flr (BitVec.ofNat 32 s.val) 12#32) 3#32) (X (ix2 s d) * W (ix3 0 d j)) 0 := by
  pointwise [k0_pay16, k0_pay17, k0_pay18]; rfl

theorem read15 (X : FVec Ideal S48x256 .f32) (v : FVec Ideal S48x512 .f32) (W : Vec Ideal S1x256x512 .f32) (s : Fin 48) (j : Fin 512) :
    k0_pay15 (F := Ideal) X rows v 12#32 (k0_pay13 rows) k0_pay14 W (ix2 s j)
      = v (ix2 s j) + ∑ d : Fin 256, Scalar.select (IntOp.cmpi .eq (flr (BitVec.ofNat 32 s.val) 12#32) 2#32) (X (ix2 s d) * W (ix3 0 d j)) 0 := by
  pointwise [k0_pay15, k0_pay13, k0_pay14]; rfl

theorem read12 (X Y : FVec Ideal S48x256 .f32) (W0 W1 : Vec Ideal S1x256x512 .f32) (s : Fin 48) (j : Fin 512) :
    k0_pay12 (F := Ideal) X rows (k0_pay10 (F := Ideal)) Y W0 W1 (ix2 s j)
      = (∑ d : Fin 256, Y (ix2 s d) * W0 (ix3 0 d j))
        + ∑ d : Fin 256, Scalar.select (IntOp.cmpi .eq (flr (BitVec.ofNat 32 s.val) 12#32) 1#32) (X (ix2 s d) * W1 (ix3 0 d j)) 0 := by
  pointwise [k0_pay12, k0_pay10]; rfl

theorem read11 (v83 : IVec S1024x1 32) (v113 : IVec S1024x48 1) (v115 : BitVec 32) (v117 : IVec S1024x48 32) (v119 v125 : IVec S1024x48 1)
    (x : Vec Ideal S1024x256 .f32) (s : Fin 48) (d : Fin 256) :
    k0_pay11 (F := Ideal) v83 v113 v115 v117 v119 v125 x (ix2 s d)
      = Scalar.select (IntOp.cmpi .eq (flr (BitVec.ofNat 32 s.val) 12#32) 0#32) (k0_pay9 (F := Ideal) v83 v113 v115 v117 v119 v125 x (ix2 s d)) 0 := by
  pointwise [k0_pay11]; rfl

/-- Four sums of which three are of zeros. -/
theorem sum_four (q : ℕ) (hq : q < 4) (f : Fin 256 → EReal) (w : Fin 4 → Fin 256 → EReal) :
    (((∑ d, Scalar.select (IntOp.cmpi .eq (BitVec.ofNat 32 q) 0#32) (f d) 0 * w 0 d)
      + ∑ d, Scalar.select (IntOp.cmpi .eq (BitVec.ofNat 32 q) 1#32) (f d * w 1 d) 0)
      + ∑ d, Scalar.select (IntOp.cmpi .eq (BitVec.ofNat 32 q) 2#32) (f d * w 2 d) 0)
      + ∑ d, Scalar.select (IntOp.cmpi .eq (BitVec.ofNat 32 q) 3#32) (f d * w 3 d) 0 = ∑ d, f d * w ⟨q, hq⟩ d := by
  have hs : ∀ (a k : ℕ) (ha : a < 4) (hk : k < 4) (u v : EReal),
      Scalar.select (IntOp.cmpi .eq (BitVec.ofNat 32 a) (BitVec.ofNat 32 k)) u v = if a = k then u else v := fun a k ha hk u v => by
    rw [select_bit]; exact if_congr ((eq_bit _ _).trans (word_inj (by omega) (by omega))) rfl rfl
  simp only [hs q 0 hq (by omega), hs q 1 hq (by omega), hs q 2 hq (by omega), hs q 3 hq (by omega)]
  obtain rfl | rfl | rfl | rfl : q = 0 ∨ q = 1 ∨ q = 2 ∨ q = 3 := by omega
  all_goals simp

/-- Element `(s, j)` of a device's slab: the tokens that have their place at row `s`, summed, times the weights of expert
    `s / 12` of the device's four. -/
theorem read_slab (o : Dev nD) (e : Vec Ideal S1024x1 .i32) (x : Vec Ideal S1024x256 .f32) (W : Fin 4 → Vec Ideal S1x256x512 .f32) (s : Fin 48) (j : Fin 512) :
    slabOf (F := Ideal) (myWord o) x e (W 0) (W 1) (W 2) (W 3) (ix2 s j)
      = ∑ d : Fin 256, (∑ i : Fin 1024, (if At e o.val s.val i then (1 : EReal) else 0) * x (ix2 i d)) * W ⟨s.val / 12, by omega⟩ (ix3 0 d j) := by
  unfold slabOf
  dsimp only
  rw [read18, read15, read12]
  simp only [read11, read9]
  rw [flr_12 ⟨s.val, by omega⟩]
  exact sum_four (s.val / 12) (by omega) (fun d => ∑ i : Fin 1024, (if At e o.val s.val i then (1 : EReal) else 0) * x (ix2 i d)) (fun k d => W k (ix3 0 d j))

end Cert.Dispatch

end
-- ==== Proof.Places.lean ====
/-
# `Places`: which token has its place where

A token whose word names an expert and whose rank there is at most twelve has exactly one place among the 768 rows, and no
other token has that place. Every other token has no place.
-/
module

public import proofs.«01_k».proof.Proof.Reads

@[expose] public section

set_option maxRecDepth 16384

noncomputable section

namespace Cert.Dispatch

open Cert.KernelIdeal Cert.KernelIdeal.Gen
open Idealize.ShloMosaic

variable (e : Vec Ideal S1024x1 .i32)

/-- The token is kept: its word names an expert and its rank there is at most twelve. -/
def Kept (i : Fin 1024) : Prop := (e (ix2 i 0)).toNat < 64 ∧ rank e i ≤ 12

instance (i : Fin 1024) : Decidable (Kept e i) := by unfold Kept; infer_instance

theorem rank_of_lt {i : Fin 1024} (h : (e (ix2 i 0)).toNat < 64) : rank e i = upTo e i (e (ix2 i 0)).toNat := if_pos h

/-- A token counts itself. -/
theorem rank_pos {i : Fin 1024} (h : (e (ix2 i 0)).toNat < 64) : 1 ≤ rank e i := by
  rw [rank_of_lt e h]
  exact Finset.card_pos.2 ⟨i, Finset.mem_filter.2 ⟨Finset.mem_univ _, le_refl _, (word_eq (by omega)).2 rfl⟩⟩

/-- Of two tokens of one expert the later has the higher rank. -/
theorem rank_lt {i i' : Fin 1024} (hlt : i < i') (h : (e (ix2 i' 0)).toNat < 64) (heq : e (ix2 i 0) = e (ix2 i' 0)) : rank e i < rank e i' := by
  rw [rank_of_lt e h, rank_of_lt e (heq ▸ h), heq]
  refine Finset.card_lt_card ⟨fun x hx => ?_, fun hs => ?_⟩
  · obtain ⟨_, hle, hx'⟩ := Finset.mem_filter.1 hx
    exact Finset.mem_filter.2 ⟨Finset.mem_univ _, hle.trans hlt.le, hx'⟩
  · have := hs (Finset.mem_filter.2 ⟨Finset.mem_univ i', le_refl _, (word_eq (by omega)).2 rfl⟩)
    exact absurd (Finset.mem_filter.1 this).2.1 (not_le.2 hlt)

theorem rank_inj {i i' : Fin 1024} (h : (e (ix2 i 0)).toNat < 64) (heq : e (ix2 i' 0) = e (ix2 i 0)) (hr : rank e i' = rank e i) : i' = i := by
  rcases lt_trichotomy i' i with hlt | he | hlt
  · exact absurd hr (rank_lt e hlt h heq).ne
  · exact he
  · exact absurd hr (rank_lt e hlt (heq ▸ h) heq.symm).ne'

/-- The row of a kept token. -/
def place (i : Fin 1024) : ℕ := 48 * ((e (ix2 i 0)).toNat / 4) + 12 * ((e (ix2 i 0)).toNat % 4) + (rank e i - 1)

theorem place_lt {i : Fin 1024} (h : Kept e i) : place e i < 768 := by
  obtain ⟨h, h'⟩ := h; have := rank_pos e h; unfold place; omega

theorem at_iff (g : Fin 768) (i : Fin 1024) :
    At e (g.val / 48) (g.val % 48) i ↔ (e (ix2 i 0)).toNat = g.val / 48 * 4 + g.val % 48 / 12 ∧ rank e i = g.val % 48 % 12 + 1 := by
  unfold At; rw [word_eq (by omega)]

/-- A kept token has its place at its row alone, -/
theorem at_place {i : Fin 1024} (h : Kept e i) (g : Fin 768) : At e (g.val / 48) (g.val % 48) i ↔ g = ⟨place e i, place_lt e h⟩ := by
  rw [at_iff, Fin.ext_iff]
  obtain ⟨h1, h2⟩ := h; have := rank_pos e h1
  show _ ↔ g.val = place e i
  unfold place
  omega

/-- it is the only token there, -/
theorem at_only {i : Fin 1024} (h : Kept e i) (i' : Fin 1024) : At e (place e i / 48) (place e i % 48) i' ↔ i' = i := by
  have hp := (at_place e h ⟨place e i, place_lt e h⟩).2 rfl
  constructor
  · intro h'; exact rank_inj e h.1 (h'.1.trans hp.1.symm) (h'.2.trans hp.2.symm)
  · rintro rfl; exact hp

/-- and a token that is not kept has no place. -/
theorem at_none {i : Fin 1024} (h : ¬ Kept e i) (g : Fin 768) : ¬ At e (g.val / 48) (g.val % 48) i := by
  rw [at_iff]
  intro h'
  refine h ⟨by omega, by omega⟩

theorem place_expert {i : Fin 1024} (h : Kept e i) : place e i / 48 * 4 + place e i % 48 / 12 = (e (ix2 i 0)).toNat := by
  obtain ⟨h1, h2⟩ := h; have := rank_pos e h1; unfold place; omega

/-- A sum over the rows of the gathered buffer, each row being the tokens placed there, summed, times the weights of the
    row's expert: the kept token times its expert's weights. -/
theorem sum_places (x : Fin 1024 → Fin 256 → EReal) (w : Fin 64 → Fin 256 → EReal) (i : Fin 1024) :
    (∑ g : Fin 768, (if At e (g.val / 48) (g.val % 48) i then (1 : EReal) else 0)
      * ∑ d, (∑ i' : Fin 1024, (if At e (g.val / 48) (g.val % 48) i' then (1 : EReal) else 0) * x i' d) * w ⟨g.val / 48 * 4 + g.val % 48 / 12, by omega⟩ d)
      = if h : Kept e i then ∑ d, x i d * w ⟨(e (ix2 i 0)).toNat, h.1⟩ d else 0 := by
  by_cases h : Kept e i
  · rw [dif_pos h, sum_one_place _ _ ⟨place e i, place_lt e h⟩ (at_place e h)]
    refine Finset.sum_congr rfl fun d _ => ?_
    show (∑ i' : Fin 1024, (if At e (place e i / 48) (place e i % 48) i' then (1 : EReal) else 0) * x i' d) * w ⟨place e i / 48 * 4 + place e i % 48 / 12, _⟩ d = _
    rw [sum_one_place _ (fun i' => x i' d) i (at_only e h)]
    exact congrArg (fun k => x i d * w k d) (Fin.ext (place_expert e h))
  · rw [dif_neg h, sum_no_place _ _ (at_none e h)]

end Cert.Dispatch

end
-- ==== Proof.RefValue.lean ====
/-
# `RefValue`: the reference, element by element, over the extended reals

The reference's running count of an expert's tokens is the count up to and including the token; its result is the kept
token times its expert's weights, and zero for the other tokens.
-/
module

public import proofs.«01_k».proof.Proof.Places
public import proofs.«01_k».proof.Proof.Gen.ReferenceIdeal
public import Idealize.ShloMosaic.Lib.Routing.OpsOne
public import Idealize.ShloMosaic.Lib.Pointwise.IndexBridge

@[expose] public section

set_option maxRecDepth 16384

noncomputable section

namespace Cert.Dispatch

open Cert.ReferenceIdeal Cert.ReferenceIdeal.Gen
open Idealize.ShloMosaic

/-- Where a token's word is an expert's number. -/
def refHit (e : IVec S1024x1 32) : IVec S1024x64 1 :=
  cmpi .eq (broadcastInDim S1024x64 ![0, 1] bcast_S1024x1_S1024x64_0_1 e)
    (broadcastInDim S1024x64 ![0, 1] bcast_S1x64_S1024x64_0_1 (broadcastInDim S1x64 ![1] bcast_S64_S1x64_1 (iotaInDim S64 32 0)))

/-- The reference's running counts. -/
def refCount (e : IVec S1024x1 32) : IVec S1024x64 32 :=
  Host.reduceWindow IntOp.addi ![1024, 1] ![1, 1] ![1023, 0] ![0, 0] (extui 32 (refHit e) natLt_1_32) (broadcastInDim S_ ![] bcast_S_S_ (constantI S_ 32 0#32))
    reduceWindows_S1024x64_S1024x64_w1024s1p1023_0_w1s1p0_0 h_S_

/-- The reference's result, from the tokens, the expert words and the experts' weights. -/
def refOf (x : FVec Ideal S1024x256 .f32) (e : IVec S1024x1 32) (W : FVec Ideal S64x256x512 .f32) : FVec Ideal S1024x512 .f32 :=
  Host.reduceAdd (select (broadcastInDim S1024x64x512 ![0, 1, 2] bcast_S1024x64x1_S1024x64x512_0_1_2 (broadcastInDim S1024x64x1 ![0, 1] bcast_S1024x64_S1024x64x1_0_1
      (andi (refHit e) (cmpi .sle (refCount e) (broadcastInDim S1024x64 ![] bcast_S_S1024x64 (constantI S_ 32 12#32))))))
    (Host.dotGeneral dot_S1024x256_S64x256x512_S1024x64x512_1_1_0_02_n_n none x W)
    (broadcastInDim S1024x64x512 ![] bcast_S_S1024x64x512 (id (constant S_ .f32 0x00000000#32)))) (constant S_ .f32 0x00000000#32) reducesTo_S1024x64x512_S1024x512_d1 h_S_

theorem refHit_bit (e : IVec S1024x1 32) (i : Fin 1024) (k : Fin 64) : refHit e (ix2 i k) = IntOp.cmpi .eq (e (ix2 i 0)) (BitVec.ofNat 32 k.val) := by
  pointwise [refHit]

/-- The sum of a list of ones at the numbers with a property, up to a bound, counts them. -/
theorem sum_range_count (p : Fin 1024 → Prop) [DecidablePred p] (i : Fin 1024) :
    ((List.range (i.val + 1)).map fun n => if h : n < 1024 then (if p ⟨n, h⟩ then 1 else 0) else 0).sum = (Finset.univ.filter fun x : Fin 1024 => x ≤ i ∧ p x).card := by
  change (∑ n ∈ Finset.range (i.val + 1), if h : n < 1024 then (if p ⟨n, h⟩ then 1 else 0) else 0) = _
  rw [Finset.card_filter]
  have hr : (∑ x : Fin 1024, if x ≤ i ∧ p x then 1 else 0)
      = ∑ n ∈ Finset.range 1024, if h : n < 1024 then (if n ≤ i.val ∧ p ⟨n, h⟩ then 1 else 0) else 0 := by
    rw [← Fin.sum_univ_eq_sum_range (fun n => if h : n < 1024 then (if n ≤ i.val ∧ p ⟨n, h⟩ then 1 else 0) else 0) 1024]
    refine Finset.sum_congr rfl fun x _ => ?_
    rw [dif_pos x.isLt]; rfl
  have hi := i.isLt
  rw [hr]
  refine (Finset.sum_congr rfl fun n hn => ?_).trans (Finset.sum_subset (Finset.range_mono (by omega : i.val + 1 ≤ 1024)) fun n hn hn' => ?_)
  · have := Finset.mem_range.1 hn
    have h : n < 1024 := by omega
    rw [dif_pos h, dif_pos h]
    exact if_congr ⟨fun h' => ⟨by omega, h'⟩, fun h' => h'.2⟩ rfl rfl
  · have h := Finset.mem_range.1 hn
    rw [dif_pos h]
    exact if_neg fun h' => hn' (Finset.mem_range.2 (by omega))

/-- The running count of expert `k` at token `i`. -/
theorem refCount_eq (e : IVec S1024x1 32) (i : Fin 1024) (k : Fin 64) : refCount e (ix2 i k) = BitVec.ofNat 32 (upTo e i k.val) := by
  unfold refCount
  rw [ix2_eq_valueIdx]
  have h := Routing.cumsum_rows (R := 1024) (Rm1 := 1023) (C := 64) rfl (extui 32 (refHit e) natLt_1_32)
    (fun n c => if h : n < 1024 then (if e (ix2 ⟨n, h⟩ 0) = BitVec.ofNat 32 c then 1 else 0) else 0)
    (fun n c => by
      rw [← ix2_eq_valueIdx, dif_pos n.isLt]
      show BitVec.setWidth 32 (refHit e (ix2 n c)) = _
      rw [refHit_bit, WordCmp.cmpi_eq_eq]
      by_cases hh : e (ix2 n 0) = BitVec.ofNat 32 c.val <;> simp [hh])
    (broadcastInDim S_ ![] bcast_S_S_ (constantI S_ 32 0#32)) rfl reduceWindows_S1024x64_S1024x64_w1024s1p1023_0_w1s1p0_0 h_S_ i k
  refine h.trans (congrArg (BitVec.ofNat 32) ?_)
  exact sum_range_count (fun x => e (ix2 x 0) = BitVec.ofNat 32 k.val) i

/-- The reference's result: the kept token times its expert's weights, and zero for the other tokens. -/
theorem refOf_eq (x : FVec Ideal S1024x256 .f32) (e : IVec S1024x1 32) (W : FVec Ideal S64x256x512 .f32) (i : Fin 1024) (j : Fin 512) :
    refOf x e W (ix2 i j) = if h : Kept e i then ∑ d, x (ix2 i d) * W (ix3 ⟨(e (ix2 i 0)).toNat, h.1⟩ d j) else 0 := by
  have h : refOf x e W (ix2 i j) = ∑ k : Fin 64, Scalar.select (IntOp.andi (refHit e (ix2 i k)) (IntOp.cmpi .sle (refCount e (ix2 i k)) 12#32))
      (∑ d : Fin 256, x (ix2 i d) * W (ix3 k d j)) (0 : EReal) := by
    pointwise [refOf]
    refine Finset.sum_congr rfl fun k _ => ?_
    refine congrArg (Scalar.select _ _) ?_
    exact Ideal.ofBits_zero_f32
  rw [h]
  have hk : ∀ k : Fin 64, IntOp.andi (refHit e (ix2 i k)) (IntOp.cmpi .sle (refCount e (ix2 i k)) 12#32) = 1#1
      ↔ (e (ix2 i 0)).toNat = k.val ∧ rank e i ≤ 12 := fun k => by
    rw [and_bit, refHit_bit, eq_bit, refCount_eq, sle_bit (by have := upTo_le e i k.val; omega) (by omega), word_eq (by omega)]
    constructor
    · rintro ⟨h1, h2⟩; refine ⟨h1, ?_⟩; rw [rank_of_lt e (by omega), h1]; exact h2
    · rintro ⟨h1, h2⟩; refine ⟨h1, ?_⟩; rw [rank_of_lt e (by omega), h1] at h2; exact h2
  by_cases hK : Kept e i
  · rw [dif_pos hK, Finset.sum_eq_single (⟨(e (ix2 i 0)).toNat, hK.1⟩ : Fin 64)]
    · rw [select_bit, if_pos ((hk _).2 ⟨rfl, hK.2⟩)]
    · intro k _ hne
      rw [select_bit, if_neg fun h' => hne (Fin.ext ((hk k).1 h').1.symm)]
    · intro h'; exact absurd (Finset.mem_univ _) h'
  · rw [dif_neg hK]
    refine Finset.sum_eq_zero fun k _ => ?_
    rw [select_bit, if_neg fun h' => hK ⟨by have := ((hk k).1 h').1; omega, ((hk k).1 h').2⟩]

end Cert.Dispatch

end
-- ==== Proof.Value.lean ====
/-
# `Value`: the kernel's result is the reference's, over the extended reals

Every device's result is its 64 rows of the reference's result.
-/
module

public import proofs.«01_k».proof.Proof.Run
public import proofs.«01_k».proof.Proof.Slabs
public import proofs.«01_k».proof.Proof.RefValue
public import proofs.«01_k».proof.Proof.Reference

@[expose] public section

set_option maxRecDepth 16384

noncomputable section

namespace Cert.Dispatch

open Cert.KernelIdeal Cert.KernelIdeal.Gen
open Idealize.ShloMosaic
open Idealize.ShloMosaic.TcCoe
open Idealize.SL.Sem

/-- One expert's weights out of the four of a device. -/
theorem read_wAt (k : Fin 4) (h : ∀ a, (![k.val, 0, 0] : Fin 3 → ℕ) a + S1x256x512.size a ≤ S4x256x512.size a)
    (f : (cc0_stg2_0 : Ref sig .tc).ty.Contents (Elt Ideal)) (d : Fin 256) (j : Fin 512) :
    wAt (F := Ideal) ![k.val, 0, 0] h f (ix3 0 d j) = f (ix3 k d j) := by
  show f _ = f _
  refine congrArg f (funext fun a => Fin.ext ?_)
  match a with
  | ⟨0, _⟩ => show k.val + 1 * 0 = k.val; omega
  | ⟨1, _⟩ => show 0 + 1 * d.val = d.val; omega
  | ⟨2, _⟩ => show 0 + 1 * j.val = j.val; omega

/-- A device's own expert words are the 64 from its number times 64. -/
theorem read_mine (c : Dev nD) (f : (cc0_stg1_0 : Ref sig .tc).ty.Contents (Elt Ideal)) (r : Fin 64) (i : Fin 1024) (hi : i.val = c.val * 64 + r.val) :
    mineAt (F := Ideal) c f (ix2 r 0) = f (ix2 i 0) := by
  show f _ = f _
  refine congrArg f (funext fun a => Fin.ext ?_)
  match a with
  | ⟨0, _⟩ => show k0_off4 c 0 + 1 * r.val = i.val; rw [k0_off4_eq, hi]; show 64 * c.val + 1 * r.val = _; omega
  | ⟨1, _⟩ => show k0_off4 c 1 + 1 * 0 = 0; rw [k0_off4_eq]; rfl

/-- The number of an expert of a device. -/
def expertOf (o : Dev nD) (q : Fin 4) : Fin 64 := ⟨o.val * 4 + q.val, by have : o.val < 16 := o.isLt; omega⟩

variable (m : (ℓ : Loc nD τ sig) → Buf (Elt Ideal) ℓ)
variable (x : Vec Ideal S1024x256 .f32) (e : Vec Ideal S1024x1 .i32) (W : Fin 64 → Fin 256 → Fin 512 → EReal)

/-- Every device holds the same tokens and expert words, and its own four experts' weights. -/
def Holds : Prop := ∀ c : Dev nD, xIn m c = x ∧ idxIn m c = e ∧ ∀ (q : Fin 4) (d : Fin 256) (j : Fin 512), wIn m c (ix3 q d j) = W (expertOf c q) d j

variable {m x e W}

/-- A row of a device's slab: the token that has that place, times the weights of the expert whose row it is. -/
theorem slab_at (H : Holds m x e W) (o : Dev nD) (s : Fin 48) (j : Fin 512) :
    slab m o (ix2 s j) = ∑ d : Fin 256, (∑ i : Fin 1024, (if At e o.val s.val i then (1 : EReal) else 0) * x (ix2 i d)) * W (expertOf o ⟨s.val / 12, by omega⟩) d j := by
  obtain ⟨hx, he, hw⟩ := H o
  have h := read_slab o e x ![wAt ![0, 0, 0] inb_S4x256x512_S1x256x512_0_0_0 (wIn m o), wAt ![1, 0, 0] inb_S4x256x512_S1x256x512_1_0_0 (wIn m o),
    wAt ![2, 0, 0] inb_S4x256x512_S1x256x512_2_0_0 (wIn m o), wAt ![3, 0, 0] inb_S4x256x512_S1x256x512_3_0_0 (wIn m o)] s j
  unfold slab
  rw [hx, he]
  refine h.trans (Finset.sum_congr rfl fun d _ => congrArg (_ * ·) ?_)
  rw [← hw]
  generalize (⟨s.val / 12, _⟩ : Fin 4) = q
  match q with
  | ⟨0, _⟩ => exact read_wAt 0 _ (wIn m o) d j
  | ⟨1, _⟩ => exact read_wAt 1 _ (wIn m o) d j
  | ⟨2, _⟩ => exact read_wAt 2 _ (wIn m o) d j
  | ⟨3, _⟩ => exact read_wAt 3 _ (wIn m o) d j

/-- A row of the gathered buffer is a row of a device's slab. -/
theorem gath_at (g : Fin 768) (j : Fin 512) :
    gath m (ix2 g j) = slab m ⟨g.val / 48, by show _ < 16; omega⟩ (ix2 ⟨g.val % 48, by omega⟩ j) := by
  show slab m (slotOf (ix2 g j)) (inSlot (ix2 g j)) = _
  refine congrArg₂ (slab m) (Fin.ext rfl) (funext fun a => Fin.ext ?_)
  match a with
  | ⟨0, _⟩ => rfl
  | ⟨1, _⟩ => rfl

/-- An element of a device's result. -/
theorem out_at (H : Holds m x e W) (c : Dev nD) (r : Fin 64) (j : Fin 512) (i : Fin 1024) (hi : i.val = c.val * 64 + r.val) :
    outAt m c (ix2 r j) = if h : Kept e i then ∑ d, x (ix2 i d) * W ⟨(e (ix2 i 0)).toNat, h.1⟩ d j else 0 := by
  obtain ⟨_, he, _⟩ := H c
  unfold outAt
  rw [he, read24 c e _ (gath m) r j i hi (read_mine c e r i hi)]
  refine Eq.trans (Finset.sum_congr (M := EReal) rfl fun g _ => ?_) (sum_places e (fun i d => x (ix2 i d)) (fun k d => W k d j) i)
  exact congrArg (fun z : EReal => (if At e (g.val / 48) (g.val % 48) i then (1 : EReal) else 0) * z) ((gath_at g j).trans (slab_at H _ _ j))

/-- The kernel's result and the reference's are equal over the extended reals. -/
theorem algebraic : Cert.algebraic_KernelIdeal_ReferenceIdeal (hReferenceIdeal := Cert.ReferenceIdeal.Gen.facts) := by
  intro m g m' g' _ hagree
  refine ⟨refOf (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c).1.trans ?_, (h.1 c).2⟩) (run_main (F := Ideal) m g)
    have H : Holds m (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg2))
        (fun k d j => m' (((0 : Dev Cert.ReferenceIdeal.nD).tc : Thread Cert.ReferenceIdeal.nD Cert.ReferenceIdeal.τ).loc Cert.ReferenceIdeal.main_arg3) (ix3 k d j)) := fun c => by
      refine ⟨(xIn_eq m c).trans (hagree c).1, (idxIn_eq m c).trans (hagree c).2.2.1, fun q d j => ?_⟩
      refine (congrFun ((wIn_eq m c).trans (hagree c).2.2.2) (ix3 q d j)).trans ?_
      refine congrArg (m' (((0 : Dev Cert.ReferenceIdeal.nD).tc : Thread Cert.ReferenceIdeal.nD Cert.ReferenceIdeal.τ).loc Cert.ReferenceIdeal.main_arg3)) (funext fun a => Fin.ext ?_)
      match a with
      | ⟨0, _⟩ => rfl
      | ⟨1, _⟩ => rfl
      | ⟨2, _⟩ => rfl
    funext k
    have hc : c.val < 16 := c.isLt
    obtain ⟨r, j, rfl⟩ : ∃ (r : Fin 64) (j : Fin 512), k = ix2 r j := ⟨k 0, k 1, eq_ix2 k⟩
    refine (out_at H c r j ⟨c.val * 64 + r.val, by omega⟩ rfl).trans ?_
    refine (refOf_eq _ _ _ ⟨c.val * 64 + r.val, by omega⟩ j).symm.trans ?_
    refine congrArg (refOf _ _ _) (funext fun a => Fin.ext ?_)
    match a with
    | ⟨0, _⟩ => rfl
    | ⟨1, _⟩ => rfl
  · exact (θ_run Cert.ReferenceIdeal.defs _ _).mono (fun r h => h 0) (Cert.ReferenceIdeal.Value.run (F := Ideal) m' g')

end Cert.Dispatch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Dispatch.frame_kernel, Cert.Dispatch.frame_kernelIdeal, Cert.Dispatch.frame_reference, trivial, Cert.Dispatch.algebraic⟩

end Cert.Proof

end
